-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rois_in_unit [hPre_rois_in_unit : Cert.Pre_rois_in_unit.Facts] (m : (ℓ : Loc Cert.KernelIdeal.nD Cert.KernelIdeal.τ Cert.KernelIdeal.sig) → Buf (Elt Ideal) ℓ) : Prop :=
  ∀ c : Dev Cert.KernelIdeal.nD,
    (Cert.Pre_rois_in_unit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rois_in_unit [hPre_rois_in_unit : Cert.Pre_rois_in_unit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rois_in_unit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rois_in_unit [hKernelIdeal : Cert.KernelIdeal.Facts] [hPre_rois_in_unit : Cert.Pre_rois_in_unit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rois_in_unit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rois_in_unit [hReferenceIdeal : Cert.ReferenceIdeal.Facts] [hPre_rois_in_unit : Cert.Pre_rois_in_unit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rois_in_unit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "one_fourteenth" .f32 0x3D924925#32 ((14⁻¹ : ℝ) : EReal)

def algebraic_KernelIdeal_ReferenceIdeal_pre_rois_in_unit [hKernelIdeal : Cert.KernelIdeal.Facts] [hReferenceIdeal : Cert.ReferenceIdeal.Facts] [hPre_rois_in_unit : Cert.Pre_rois_in_unit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rois_in_unit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v324) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rois_in_unit : Cert.Pre_rois_in_unit.Facts),
    quiescent_Kernel (hKernel := hKernel)
    ∧ quiescent_KernelIdeal (hKernelIdeal := hKernelIdeal)
    ∧ quiescent_KernelIdeal_pre_rois_in_unit (hKernelIdeal := hKernelIdeal) (hPre_rois_in_unit := hPre_rois_in_unit)
    ∧ quiescent_ReferenceIdeal (hReferenceIdeal := hReferenceIdeal)
    ∧ quiescent_ReferenceIdeal_pre_rois_in_unit (hReferenceIdeal := hReferenceIdeal) (hPre_rois_in_unit := hPre_rois_in_unit)
    ∧ preserves_Kernel_KernelIdeal
    ∧ algebraic_KernelIdeal_ReferenceIdeal_pre_rois_in_unit (hKernelIdeal := hKernelIdeal) (hReferenceIdeal := hReferenceIdeal) (hPre_rois_in_unit := hPre_rois_in_unit)
-- ==== Pre_rois_in_unit.lean ====
abbrev S1x490x34x34 : Shape := ⟨4, ![1, 490, 34, 34]⟩
abbrev S5000x5 : Shape := ⟨2, ![5000, 5]⟩
abbrev S5000x4 : Shape := ⟨2, ![5000, 4]⟩
abbrev S_ : Shape := ⟨0, ![]⟩

class Facts : Prop where
  slices_S5000x5_S5000x4_0_1 : S5000x5.Slices ![0, 1] S5000x4
  bcast_S_S5000x4 : S_.BroadcastsInDim S5000x4 (![] : Fin 0 → Fin S5000x4.rank)

variable [Facts]

def fn {F : FTy → Type} [FloatOps F] (main_arg0 : FVec F S1x490x34x34 .f32) (main_arg1 : FVec F S5000x5 .f32) : IVec S5000x4 1 :=
  let main_v0 : FVec F S5000x4 .f32 := (extractStridedSlice S5000x4 ![0, 1] · slices_S5000x5_S5000x4_0_1) main_arg1
  let main_cst : FVec F S_ .f32 := constant S_ .f32 0x00000000#32
  let main_v1 : FVec F S5000x4 .f32 := broadcastInDim S5000x4 ![] bcast_S_S5000x4 main_cst
  let main_v2 : IVec S5000x4 1 := cmpf .oge main_v0 main_v1
  let main_v3 : FVec F S5000x4 .f32 := (extractStridedSlice S5000x4 ![0, 1] · slices_S5000x5_S5000x4_0_1) main_arg1
  let main_cst_0 : FVec F S_ .f32 := constant S_ .f32 0x3F800000#32
  let main_v4 : FVec F S5000x4 .f32 := broadcastInDim S5000x4 ![] bcast_S_S5000x4 main_cst_0
  let main_v5 : IVec S5000x4 1 := cmpf .olt main_v3 main_v4
  let main_v6 : IVec S5000x4 1 := andi main_v2 main_v5
  main_v6
-- ==== Kernel.lean ====
abbrev S1x490x34x34 : Shape := ⟨4, ![1, 490, 34, 34]⟩
abbrev S5000x5 : Shape := ⟨2, ![5000, 5]⟩
abbrev S490x1156 : Shape := ⟨2, ![490, 1156]⟩
abbrev S5x1000x5 : Shape := ⟨3, ![5, 1000, 5]⟩
abbrev S5x5x1000 : Shape := ⟨3, ![5, 5, 1000]⟩
abbrev S5000x490 : Shape := ⟨2, ![5000, 490]⟩
abbrev S5000x10x49 : Shape := ⟨3, ![5000, 10, 49]⟩
abbrev S490x128 : Shape := ⟨2, ![490, 128]⟩
abbrev S1x5x1000 : Shape := ⟨3, ![1, 5, 1000]⟩
abbrev S1000x490 : Shape := ⟨2, ![1000, 490]⟩
abbrev S5x1000 : Shape := ⟨2, ![5, 1000]⟩
abbrev S1x1000 : Shape := ⟨2, ![1, 1000]⟩
abbrev S4x1000 : Shape := ⟨2, ![4, 1000]⟩
abbrev S490x2 : Shape := ⟨2, ![490, 2]⟩
abbrev S490x4 : Shape := ⟨2, ![490, 4]⟩

abbrev nBuf : Space → Nat
  | .hbm => 7
  | .vmem => 5
  | .smem => 0
  | _ => 0

abbrev bufTy : (tb : Table) → Fin (tcTables nBuf tb) → BufTy
  | .hbm, ⟨0, _⟩ => ⟨S1x490x34x34, .f32⟩
  | .hbm, ⟨1, _⟩ => ⟨S5000x5, .f32⟩
  | .hbm, ⟨2, _⟩ => ⟨S490x1156, .f32⟩
  | .hbm, ⟨3, _⟩ => ⟨S5x1000x5, .f32⟩
  | .hbm, ⟨4, _⟩ => ⟨S5x5x1000, .f32⟩
  | .hbm, ⟨5, _⟩ => ⟨S5000x490, .f32⟩
  | .hbm, ⟨6, _⟩ => ⟨S5000x10x49, .f32⟩
  | .local _ .vmem, ⟨0, _⟩ => ⟨S490x128, .f32⟩
  | .local _ .vmem, ⟨1, _⟩ => ⟨S1x5x1000, .f32⟩
  | .local _ .vmem, ⟨2, _⟩ => ⟨S1x5x1000, .f32⟩
  | .local _ .vmem, ⟨3, _⟩ => ⟨S1000x490, .f32⟩
  | .local _ .vmem, ⟨4, _⟩ => ⟨S1000x490, .f32⟩
  | _, _ => ⟨S1x490x34x34, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S490x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x5x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x490 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "one_fourteenth" => some ((14⁻¹ : ℝ) : EReal)
  | _ => none
-- ==== ReferenceIdeal.lean ====
abbrev S1x490x34x34 : Shape := ⟨4, ![1, 490, 34, 34]⟩
abbrev S5000x5 : Shape := ⟨2, ![5000, 5]⟩
abbrev S490x34x34 : Shape := ⟨3, ![490, 34, 34]⟩
abbrev S10x7x7x34x34 : Shape := ⟨5, ![10, 7, 7, 34, 34]⟩
abbrev S5000x1 : Shape := ⟨2, ![5000, 1]⟩
abbrev S5000 : Shape := ⟨1, ![5000]⟩
abbrev S_ : Shape := ⟨0, ![]⟩
abbrev S7 : Shape := ⟨1, ![7]⟩
abbrev S1x7x1x1x1 : Shape := ⟨5, ![1, 7, 1, 1, 1]⟩
abbrev S1x1x7x1x1 : Shape := ⟨5, ![1, 1, 7, 1, 1]⟩
abbrev S4 : Shape := ⟨1, ![4]⟩
abbrev S1x1x1x4x1 : Shape := ⟨5, ![1, 1, 1, 4, 1]⟩
abbrev S1x1x1x1x4 : Shape := ⟨5, ![1, 1, 1, 1, 4]⟩
abbrev S5000x1x1x1x1 : Shape := ⟨5, ![5000, 1, 1, 1, 1]⟩
abbrev S5000x7x1x1x1 : Shape := ⟨5, ![5000, 7, 1, 1, 1]⟩
abbrev S5000x1x7x1x1 : Shape := ⟨5, ![5000, 1, 7, 1, 1]⟩
abbrev S5000x1x1x1x4 : Shape := ⟨5, ![5000, 1, 1, 1, 4]⟩
abbrev S5000x1x7x1x4 : Shape := ⟨5, ![5000, 1, 7, 1, 4]⟩
abbrev S5000x1x1x4x1 : Shape := ⟨5, ![5000, 1, 1, 4, 1]⟩
abbrev S5000x7x1x4x1 : Shape := ⟨5, ![5000, 7, 1, 4, 1]⟩
abbrev S5000x7x7x4x4 : Shape := ⟨5, ![5000, 7, 7, 4, 4]⟩
abbrev S5000x7x7x4x4x1 : Shape := ⟨6, ![5000, 7, 7, 4, 4, 1]⟩
abbrev S5000x7x7x4x4x4 : Shape := ⟨6, ![5000, 7, 7, 4, 4, 4]⟩
abbrev S10x5000x7x7x4x4 : Shape := ⟨6, ![10, 5000, 7, 7, 4, 4]⟩
abbrev S1x5000x7x7x4x4 : Shape := ⟨6, ![1, 5000, 7, 7, 4, 4]⟩
abbrev S10x5000x7x7 : Shape := ⟨4, ![10, 5000, 7, 7]⟩
abbrev S5000x7x7 : Shape := ⟨3, ![5000, 7, 7]⟩
abbrev S1x5000x7x7 : Shape := ⟨4, ![1, 5000, 7, 7]⟩
abbrev S5000x10x7x7 : Shape := ⟨4, ![5000, 10, 7, 7]⟩
abbrev S5000x10x49 : Shape := ⟨3, ![5000, 10, 49]⟩

abbrev nBuf : Space → Nat
  | .hbm => 433
  | .vmem => 0
  | .smem => 0
  | _ => 0

abbrev hbmTy0_0 (i : Nat) : BufTy := match i % 128 with
  | 0 => ⟨S1x490x34x34, .f32⟩
  | 1 => ⟨S5000x5, .f32⟩
  | 2 => ⟨S490x34x34, .f32⟩
  | 3 => ⟨S10x7x7x34x34, .f32⟩
  | 4 => ⟨S5000x1, .f32⟩
  | 5 => ⟨S5000, .f32⟩
  | 6 => ⟨S_, .f32⟩
  | 7 => ⟨S5000, .f32⟩
  | 8 => ⟨S5000, .f32⟩
  | 9 => ⟨S5000x1, .f32⟩
  | 10 => ⟨S5000, .f32⟩
  | 11 => ⟨S_, .f32⟩
  | 12 => ⟨S5000, .f32⟩
  | 13 => ⟨S5000, .f32⟩
  | 14 => ⟨S5000x1, .f32⟩
  | 15 => ⟨S5000, .f32⟩
  | 16 => ⟨S_, .f32⟩
  | 17 => ⟨S5000, .f32⟩
  | 18 => ⟨S5000, .f32⟩
  | 19 => ⟨S5000x1, .f32⟩
  | 20 => ⟨S5000, .f32⟩
  | 21 => ⟨S_, .f32⟩
  | 22 => ⟨S5000, .f32⟩
  | 23 => ⟨S5000, .f32⟩
  | 24 => ⟨S5000, .f32⟩
  | 25 => ⟨S5000, .f32⟩
  | 26 => ⟨S_, .f32⟩
  | 27 => ⟨S5000, .f32⟩
  | 28 => ⟨S5000, .i1⟩
  | 29 => ⟨S_, .f32⟩
  | 30 => ⟨S_, .f32⟩
  | 31 => ⟨S5000, .f32⟩
  | 32 => ⟨S5000, .f32⟩
  | 33 => ⟨S_, .f32⟩
  | 34 => ⟨S5000, .f32⟩
  | 35 => ⟨S5000, .i1⟩
  | 36 => ⟨S_, .f32⟩
  | 37 => ⟨S_, .f32⟩
  | 38 => ⟨S5000, .f32⟩
  | 39 => ⟨S5000, .f32⟩
  | 40 => ⟨S_, .f32⟩
  | 41 => ⟨S5000, .f32⟩
  | 42 => ⟨S5000, .f32⟩
  | 43 => ⟨S_, .f32⟩
  | 44 => ⟨S5000, .f32⟩
  | 45 => ⟨S5000, .f32⟩
  | 46 => ⟨S_, .f32⟩
  | 47 => ⟨S5000, .f32⟩
  | 48 => ⟨S5000, .f32⟩
  | 49 => ⟨S_, .f32⟩
  | 50 => ⟨S5000, .f32⟩
  | 51 => ⟨S5000, .f32⟩
  | 52 => ⟨S7, .i32⟩
  | 53 => ⟨S1x7x1x1x1, .i32⟩
  | 54 => ⟨S7, .i32⟩
  | 55 => ⟨S1x1x7x1x1, .i32⟩
  | 56 => ⟨S4, .i32⟩
  | 57 => ⟨S1x1x1x4x1, .i32⟩
  | 58 => ⟨S4, .i32⟩
  | 59 => ⟨S1x1x1x1x4, .i32⟩
  | 60 => ⟨S5000x1x1x1x1, .f32⟩
  | 61 => ⟨S1x7x1x1x1, .f32⟩
  | 62 => ⟨S5000x1x1x1x1, .f32⟩
  | 63 => ⟨S5000x7x1x1x1, .f32⟩
  | 64 => ⟨S5000x7x1x1x1, .f32⟩
  | 65 => ⟨S5000x7x1x1x1, .f32⟩
  | 66 => ⟨S5000x7x1x1x1, .f32⟩
  | 67 => ⟨S5000x7x1x1x1, .f32⟩
  | 68 => ⟨S5000x7x1x1x1, .f32⟩
  | 69 => ⟨S5000x1x1x1x1, .f32⟩
  | 70 => ⟨S1x1x7x1x1, .f32⟩
  | 71 => ⟨S5000x1x1x1x1, .f32⟩
  | 72 => ⟨S5000x1x7x1x1, .f32⟩
  | 73 => ⟨S5000x1x7x1x1, .f32⟩
  | 74 => ⟨S5000x1x7x1x1, .f32⟩
  | 75 => ⟨S5000x1x7x1x1, .f32⟩
  | 76 => ⟨S5000x1x7x1x1, .f32⟩
  | 77 => ⟨S5000x1x7x1x1, .f32⟩
  | 78 => ⟨S1x1x1x1x4, .f32⟩
  | 79 => ⟨S_, .f32⟩
  | 80 => ⟨S1x1x1x1x4, .f32⟩
  | 81 => ⟨S1x1x1x1x4, .f32⟩
  | 82 => ⟨S5000x1x1x1x1, .f32⟩
  | 83 => ⟨S5000x1x1x1x4, .f32⟩
  | 84 => ⟨S5000x1x1x1x4, .f32⟩
  | 85 => ⟨S5000x1x1x1x4, .f32⟩
  | 86 => ⟨S5000x1x7x1x4, .f32⟩
  | 87 => ⟨S5000x1x7x1x4, .f32⟩
  | 88 => ⟨S5000x1x7x1x4, .f32⟩
  | 89 => ⟨S1x1x1x4x1, .f32⟩
  | 90 => ⟨S_, .f32⟩
  | 91 => ⟨S1x1x1x4x1, .f32⟩
  | 92 => ⟨S1x1x1x4x1, .f32⟩
  | 93 => ⟨S5000x1x1x1x1, .f32⟩
  | 94 => ⟨S5000x1x1x4x1, .f32⟩
  | 95 => ⟨S5000x1x1x4x1, .f32⟩
  | 96 => ⟨S5000x1x1x4x1, .f32⟩
  | 97 => ⟨S5000x7x1x4x1, .f32⟩
  | 98 => ⟨S5000x7x1x4x1, .f32⟩
  | 99 => ⟨S5000x7x1x4x1, .f32⟩
  | 100 => ⟨S_, .f32⟩
  | 101 => ⟨S5000x1x7x1x4, .f32⟩
  | 102 => ⟨S5000x1x7x1x4, .i1⟩
  | 103 => ⟨S_, .f32⟩
  | 104 => ⟨S5000x1x7x1x4, .f32⟩
  | 105 => ⟨S5000x1x7x1x4, .i1⟩
  | 106 => ⟨S5000x1x7x1x4, .i1⟩
  | 107 => ⟨S_, .f32⟩
  | 108 => ⟨S5000x7x1x4x1, .f32⟩
  | 109 => ⟨S5000x7x1x4x1, .i1⟩
  | 110 => ⟨S5000x7x7x4x4, .i1⟩
  | 111 => ⟨S5000x7x7x4x4, .i1⟩
  | 112 => ⟨S5000x7x7x4x4, .i1⟩
  | 113 => ⟨S_, .f32⟩
  | 114 => ⟨S5000x7x1x4x1, .f32⟩
  | 115 => ⟨S5000x7x1x4x1, .i1⟩
  | 116 => ⟨S5000x7x7x4x4, .i1⟩
  | 117 => ⟨S5000x7x7x4x4, .i1⟩
  | 118 => ⟨S5000x1x7x1x4, .f32⟩
  | 119 => ⟨S5000x1x7x1x4, .f32⟩
  | 120 => ⟨S5000x7x1x4x1, .f32⟩
  | 121 => ⟨S5000x7x1x4x1, .f32⟩
  | 122 => ⟨S5000x1x7x1x4, .i32⟩
  | 123 => ⟨S5000x1x7x1x4, .i32⟩
  | 124 => ⟨S5000x7x1x4x1, .i32⟩
  | 125 => ⟨S5000x7x1x4x1, .i32⟩
  | 126 => ⟨S_, .i32⟩
  | 127 => ⟨S5000x1x7x1x4, .i32⟩
  | _ => ⟨S1x490x34x34, .f32⟩

abbrev hbmTy0_1 (i : Nat) : BufTy := match i % 128 with
  | 0 => ⟨S5000x1x7x1x4, .i1⟩
  | 1 => ⟨S_, .i32⟩
  | 2 => ⟨S5000x1x7x1x4, .i32⟩
  | 3 => ⟨S5000x1x7x1x4, .i1⟩
  | 4 => ⟨S5000x1x7x1x4, .i1⟩
  | 5 => ⟨S_, .i32⟩
  | 6 => ⟨S5000x1x7x1x4, .i32⟩
  | 7 => ⟨S5000x1x7x1x4, .i1⟩
  | 8 => ⟨S_, .i32⟩
  | 9 => ⟨S5000x1x7x1x4, .i32⟩
  | 10 => ⟨S5000x1x7x1x4, .i1⟩
  | 11 => ⟨S5000x1x7x1x4, .i1⟩
  | 12 => ⟨S_, .i32⟩
  | 13 => ⟨S5000x7x1x4x1, .i32⟩
  | 14 => ⟨S5000x7x1x4x1, .i1⟩
  | 15 => ⟨S_, .i32⟩
  | 16 => ⟨S5000x7x1x4x1, .i32⟩
  | 17 => ⟨S5000x7x1x4x1, .i1⟩
  | 18 => ⟨S5000x7x1x4x1, .i1⟩
  | 19 => ⟨S_, .i32⟩
  | 20 => ⟨S5000x7x1x4x1, .i32⟩
  | 21 => ⟨S5000x7x1x4x1, .i1⟩
  | 22 => ⟨S_, .i32⟩
  | 23 => ⟨S5000x7x1x4x1, .i32⟩
  | 24 => ⟨S5000x7x1x4x1, .i1⟩
  | 25 => ⟨S5000x7x1x4x1, .i1⟩
  | 26 => ⟨S5000x1x7x1x4, .f32⟩
  | 27 => ⟨S5000x7x1x4x1, .f32⟩
  | 28 => ⟨S_, .i32⟩
  | 29 => ⟨S_, .i32⟩
  | 30 => ⟨S_, .i32⟩
  | 31 => ⟨S5000x1x7x1x4, .i32⟩
  | 32 => ⟨S5000x1x7x1x4, .i32⟩
  | 33 => ⟨S_, .i32⟩
  | 34 => ⟨S5000x1x7x1x4, .i32⟩
  | 35 => ⟨S5000x1x7x1x4, .i32⟩
  | 36 => ⟨S_, .i32⟩
  | 37 => ⟨S_, .i32⟩
  | 38 => ⟨S_, .i32⟩
  | 39 => ⟨S5000x1x7x1x4, .i32⟩
  | 40 => ⟨S5000x1x7x1x4, .i32⟩
  | 41 => ⟨S_, .i32⟩
  | 42 => ⟨S5000x1x7x1x4, .i32⟩
  | 43 => ⟨S5000x1x7x1x4, .i32⟩
  | 44 => ⟨S_, .i32⟩
  | 45 => ⟨S_, .i32⟩
  | 46 => ⟨S_, .i32⟩
  | 47 => ⟨S5000x7x1x4x1, .i32⟩
  | 48 => ⟨S5000x7x1x4x1, .i32⟩
  | 49 => ⟨S_, .i32⟩
  | 50 => ⟨S5000x7x1x4x1, .i32⟩
  | 51 => ⟨S5000x7x1x4x1, .i32⟩
  | 52 => ⟨S_, .i32⟩
  | 53 => ⟨S_, .i32⟩
  | 54 => ⟨S_, .i32⟩
  | 55 => ⟨S5000x7x1x4x1, .i32⟩
  | 56 => ⟨S5000x7x1x4x1, .i32⟩
  | 57 => ⟨S_, .i32⟩
  | 58 => ⟨S5000x7x1x4x1, .i32⟩
  | 59 => ⟨S5000x7x1x4x1, .i32⟩
  | 60 => ⟨S_, .i32⟩
  | 61 => ⟨S1x7x1x1x1, .i32⟩
  | 62 => ⟨S1x7x1x1x1, .i1⟩
  | 63 => ⟨S_, .i32⟩
  | 64 => ⟨S1x7x1x1x1, .i32⟩
  | 65 => ⟨S1x7x1x1x1, .i32⟩
  | 66 => ⟨S1x7x1x1x1, .i32⟩
  | 67 => ⟨S_, .i32⟩
  | 68 => ⟨S1x1x7x1x1, .i32⟩
  | 69 => ⟨S1x1x7x1x1, .i1⟩
  | 70 => ⟨S_, .i32⟩
  | 71 => ⟨S1x1x7x1x1, .i32⟩
  | 72 => ⟨S1x1x7x1x1, .i32⟩
  | 73 => ⟨S1x1x7x1x1, .i32⟩
  | 74 => ⟨S_, .i32⟩
  | 75 => ⟨S5000x7x1x4x1, .i32⟩
  | 76 => ⟨S5000x7x1x4x1, .i1⟩
  | 77 => ⟨S_, .i32⟩
  | 78 => ⟨S5000x7x1x4x1, .i32⟩
  | 79 => ⟨S5000x7x1x4x1, .i32⟩
  | 80 => ⟨S5000x7x1x4x1, .i32⟩
  | 81 => ⟨S_, .i32⟩
  | 82 => ⟨S5000x1x7x1x4, .i32⟩
  | 83 => ⟨S5000x1x7x1x4, .i1⟩
  | 84 => ⟨S_, .i32⟩
  | 85 => ⟨S5000x1x7x1x4, .i32⟩
  | 86 => ⟨S5000x1x7x1x4, .i32⟩
  | 87 => ⟨S5000x1x7x1x4, .i32⟩
  | 88 => ⟨S5000x7x7x4x4, .i32⟩
  | 89 => ⟨S5000x7x7x4x4, .i32⟩
  | 90 => ⟨S5000x7x7x4x4, .i32⟩
  | 91 => ⟨S5000x7x7x4x4, .i32⟩
  | 92 => ⟨S5000x7x7x4x4x1, .i32⟩
  | 93 => ⟨S5000x7x7x4x4x1, .i32⟩
  | 94 => ⟨S5000x7x7x4x4x1, .i32⟩
  | 95 => ⟨S5000x7x7x4x4x1, .i32⟩
  | 96 => ⟨S5000x7x7x4x4x4, .i32⟩
  | 97 => ⟨S10x5000x7x7x4x4, .f32⟩
  | 98 => ⟨S5000x7x7x4x4, .i1⟩
  | 99 => ⟨S5000x7x7x4x4, .i1⟩
  | 100 => ⟨S5000x7x7x4x4, .i1⟩
  | 101 => ⟨S5000x7x7x4x4, .f32⟩
  | 102 => ⟨S1x5000x7x7x4x4, .f32⟩
  | 103 => ⟨S10x5000x7x7x4x4, .f32⟩
  | 104 => ⟨S10x5000x7x7x4x4, .f32⟩
  | 105 => ⟨S_, .i32⟩
  | 106 => ⟨S1x7x1x1x1, .i32⟩
  | 107 => ⟨S1x7x1x1x1, .i1⟩
  | 108 => ⟨S_, .i32⟩
  | 109 => ⟨S1x7x1x1x1, .i32⟩
  | 110 => ⟨S1x7x1x1x1, .i32⟩
  | 111 => ⟨S1x7x1x1x1, .i32⟩
  | 112 => ⟨S_, .i32⟩
  | 113 => ⟨S1x1x7x1x1, .i32⟩
  | 114 => ⟨S1x1x7x1x1, .i1⟩
  | 115 => ⟨S_, .i32⟩
  | 116 => ⟨S1x1x7x1x1, .i32⟩
  | 117 => ⟨S1x1x7x1x1, .i32⟩
  | 118 => ⟨S1x1x7x1x1, .i32⟩
  | 119 => ⟨S_, .i32⟩
  | 120 => ⟨S5000x7x1x4x1, .i32⟩
  | 121 => ⟨S5000x7x1x4x1, .i1⟩
  | 122 => ⟨S_, .i32⟩
  | 123 => ⟨S5000x7x1x4x1, .i32⟩
  | 124 => ⟨S5000x7x1x4x1, .i32⟩
  | 125 => ⟨S5000x7x1x4x1, .i32⟩
  | 126 => ⟨S_, .i32⟩
  | 127 => ⟨S5000x1x7x1x4, .i32⟩
  | _ => ⟨S1x490x34x34, .f32⟩

abbrev hbmTy0_2 (i : Nat) : BufTy := match i % 128 with
  | 0 => ⟨S5000x1x7x1x4, .i1⟩
  | 1 => ⟨S_, .i32⟩
  | 2 => ⟨S5000x1x7x1x4, .i32⟩
  | 3 => ⟨S5000x1x7x1x4, .i32⟩
  | 4 => ⟨S5000x1x7x1x4, .i32⟩
  | 5 => ⟨S5000x7x7x4x4, .i32⟩
  | 6 => ⟨S5000x7x7x4x4, .i32⟩
  | 7 => ⟨S5000x7x7x4x4, .i32⟩
  | 8 => ⟨S5000x7x7x4x4, .i32⟩
  | 9 => ⟨S5000x7x7x4x4x1, .i32⟩
  | 10 => ⟨S5000x7x7x4x4x1, .i32⟩
  | 11 => ⟨S5000x7x7x4x4x1, .i32⟩
  | 12 => ⟨S5000x7x7x4x4x1, .i32⟩
  | 13 => ⟨S5000x7x7x4x4x4, .i32⟩
  | 14 => ⟨S10x5000x7x7x4x4, .f32⟩
  | 15 => ⟨S5000x7x7x4x4, .i1⟩
  | 16 => ⟨S5000x7x7x4x4, .i1⟩
  | 17 => ⟨S5000x7x7x4x4, .i1⟩
  | 18 => ⟨S5000x7x7x4x4, .f32⟩
  | 19 => ⟨S1x5000x7x7x4x4, .f32⟩
  | 20 => ⟨S10x5000x7x7x4x4, .f32⟩
  | 21 => ⟨S10x5000x7x7x4x4, .f32⟩
  | 22 => ⟨S_, .i32⟩
  | 23 => ⟨S1x7x1x1x1, .i32⟩
  | 24 => ⟨S1x7x1x1x1, .i1⟩
  | 25 => ⟨S_, .i32⟩
  | 26 => ⟨S1x7x1x1x1, .i32⟩
  | 27 => ⟨S1x7x1x1x1, .i32⟩
  | 28 => ⟨S1x7x1x1x1, .i32⟩
  | 29 => ⟨S_, .i32⟩
  | 30 => ⟨S1x1x7x1x1, .i32⟩
  | 31 => ⟨S1x1x7x1x1, .i1⟩
  | 32 => ⟨S_, .i32⟩
  | 33 => ⟨S1x1x7x1x1, .i32⟩
  | 34 => ⟨S1x1x7x1x1, .i32⟩
  | 35 => ⟨S1x1x7x1x1, .i32⟩
  | 36 => ⟨S_, .i32⟩
  | 37 => ⟨S5000x7x1x4x1, .i32⟩
  | 38 => ⟨S5000x7x1x4x1, .i1⟩
  | 39 => ⟨S_, .i32⟩
  | 40 => ⟨S5000x7x1x4x1, .i32⟩
  | 41 => ⟨S5000x7x1x4x1, .i32⟩
  | 42 => ⟨S5000x7x1x4x1, .i32⟩
  | 43 => ⟨S_, .i32⟩
  | 44 => ⟨S5000x1x7x1x4, .i32⟩
  | 45 => ⟨S5000x1x7x1x4, .i1⟩
  | 46 => ⟨S_, .i32⟩
  | 47 => ⟨S5000x1x7x1x4, .i32⟩
  | 48 => ⟨S5000x1x7x1x4, .i32⟩
  | 49 => ⟨S5000x1x7x1x4, .i32⟩
  | 50 => ⟨S5000x7x7x4x4, .i32⟩
  | 51 => ⟨S5000x7x7x4x4, .i32⟩
  | 52 => ⟨S5000x7x7x4x4, .i32⟩
  | 53 => ⟨S5000x7x7x4x4, .i32⟩
  | 54 => ⟨S5000x7x7x4x4x1, .i32⟩
  | 55 => ⟨S5000x7x7x4x4x1, .i32⟩
  | 56 => ⟨S5000x7x7x4x4x1, .i32⟩
  | 57 => ⟨S5000x7x7x4x4x1, .i32⟩
  | 58 => ⟨S5000x7x7x4x4x4, .i32⟩
  | 59 => ⟨S10x5000x7x7x4x4, .f32⟩
  | 60 => ⟨S5000x7x7x4x4, .i1⟩
  | 61 => ⟨S5000x7x7x4x4, .i1⟩
  | 62 => ⟨S5000x7x7x4x4, .i1⟩
  | 63 => ⟨S5000x7x7x4x4, .f32⟩
  | 64 => ⟨S1x5000x7x7x4x4, .f32⟩
  | 65 => ⟨S10x5000x7x7x4x4, .f32⟩
  | 66 => ⟨S10x5000x7x7x4x4, .f32⟩
  | 67 => ⟨S_, .i32⟩
  | 68 => ⟨S1x7x1x1x1, .i32⟩
  | 69 => ⟨S1x7x1x1x1, .i1⟩
  | 70 => ⟨S_, .i32⟩
  | 71 => ⟨S1x7x1x1x1, .i32⟩
  | 72 => ⟨S1x7x1x1x1, .i32⟩
  | 73 => ⟨S1x7x1x1x1, .i32⟩
  | 74 => ⟨S_, .i32⟩
  | 75 => ⟨S1x1x7x1x1, .i32⟩
  | 76 => ⟨S1x1x7x1x1, .i1⟩
  | 77 => ⟨S_, .i32⟩
  | 78 => ⟨S1x1x7x1x1, .i32⟩
  | 79 => ⟨S1x1x7x1x1, .i32⟩
  | 80 => ⟨S1x1x7x1x1, .i32⟩
  | 81 => ⟨S_, .i32⟩
  | 82 => ⟨S5000x7x1x4x1, .i32⟩
  | 83 => ⟨S5000x7x1x4x1, .i1⟩
  | 84 => ⟨S_, .i32⟩
  | 85 => ⟨S5000x7x1x4x1, .i32⟩
  | 86 => ⟨S5000x7x1x4x1, .i32⟩
  | 87 => ⟨S5000x7x1x4x1, .i32⟩
  | 88 => ⟨S_, .i32⟩
  | 89 => ⟨S5000x1x7x1x4, .i32⟩
  | 90 => ⟨S5000x1x7x1x4, .i1⟩
  | 91 => ⟨S_, .i32⟩
  | 92 => ⟨S5000x1x7x1x4, .i32⟩
  | 93 => ⟨S5000x1x7x1x4, .i32⟩
  | 94 => ⟨S5000x1x7x1x4, .i32⟩
  | 95 => ⟨S5000x7x7x4x4, .i32⟩
  | 96 => ⟨S5000x7x7x4x4, .i32⟩
  | 97 => ⟨S5000x7x7x4x4, .i32⟩
  | 98 => ⟨S5000x7x7x4x4, .i32⟩
  | 99 => ⟨S5000x7x7x4x4x1, .i32⟩
  | 100 => ⟨S5000x7x7x4x4x1, .i32⟩
  | 101 => ⟨S5000x7x7x4x4x1, .i32⟩
  | 102 => ⟨S5000x7x7x4x4x1, .i32⟩
  | 103 => ⟨S5000x7x7x4x4x4, .i32⟩
  | 104 => ⟨S10x5000x7x7x4x4, .f32⟩
  | 105 => ⟨S5000x7x7x4x4, .i1⟩
  | 106 => ⟨S5000x7x7x4x4, .i1⟩
  | 107 => ⟨S5000x7x7x4x4, .i1⟩
  | 108 => ⟨S5000x7x7x4x4, .f32⟩
  | 109 => ⟨S1x5000x7x7x4x4, .f32⟩
  | 110 => ⟨S10x5000x7x7x4x4, .f32⟩
  | 111 => ⟨S10x5000x7x7x4x4, .f32⟩
  | 112 => ⟨S_, .f32⟩
  | 113 => ⟨S5000x1x7x1x4, .f32⟩
  | 114 => ⟨S5000x1x7x1x4, .f32⟩
  | 115 => ⟨S_, .f32⟩
  | 116 => ⟨S5000x7x1x4x1, .f32⟩
  | 117 => ⟨S5000x7x1x4x1, .f32⟩
  | 118 => ⟨S5000x7x7x4x4, .f32⟩
  | 119 => ⟨S5000x7x7x4x4, .f32⟩
  | 120 => ⟨S5000x7x7x4x4, .f32⟩
  | 121 => ⟨S1x5000x7x7x4x4, .f32⟩
  | 122 => ⟨S10x5000x7x7x4x4, .f32⟩
  | 123 => ⟨S10x5000x7x7x4x4, .f32⟩
  | 124 => ⟨S_, .f32⟩
  | 125 => ⟨S5000x1x7x1x4, .f32⟩
  | 126 => ⟨S5000x1x7x1x4, .f32⟩
  | 127 => ⟨S5000x7x7x4x4, .f32⟩
  | _ => ⟨S1x490x34x34, .f32⟩

abbrev hbmTy0_3 (i : Nat) : BufTy := match i % 128 with
  | 0 => ⟨S5000x7x7x4x4, .f32⟩
  | 1 => ⟨S5000x7x7x4x4, .f32⟩
  | 2 => ⟨S1x5000x7x7x4x4, .f32⟩
  | 3 => ⟨S10x5000x7x7x4x4, .f32⟩
  | 4 => ⟨S10x5000x7x7x4x4, .f32⟩
  | 5 => ⟨S10x5000x7x7x4x4, .f32⟩
  | 6 => ⟨S_, .f32⟩
  | 7 => ⟨S5000x7x1x4x1, .f32⟩
  | 8 => ⟨S5000x7x1x4x1, .f32⟩
  | 9 => ⟨S5000x7x7x4x4, .f32⟩
  | 10 => ⟨S5000x7x7x4x4, .f32⟩
  | 11 => ⟨S5000x7x7x4x4, .f32⟩
  | 12 => ⟨S1x5000x7x7x4x4, .f32⟩
  | 13 => ⟨S10x5000x7x7x4x4, .f32⟩
  | 14 => ⟨S10x5000x7x7x4x4, .f32⟩
  | 15 => ⟨S10x5000x7x7x4x4, .f32⟩
  | 16 => ⟨S5000x7x7x4x4, .f32⟩
  | 17 => ⟨S5000x7x7x4x4, .f32⟩
  | 18 => ⟨S5000x7x7x4x4, .f32⟩
  | 19 => ⟨S1x5000x7x7x4x4, .f32⟩
  | 20 => ⟨S10x5000x7x7x4x4, .f32⟩
  | 21 => ⟨S10x5000x7x7x4x4, .f32⟩
  | 22 => ⟨S10x5000x7x7x4x4, .f32⟩
  | 23 => ⟨S_, .f32⟩
  | 24 => ⟨S_, .f32⟩
  | 25 => ⟨S10x5000x7x7x4x4, .i1⟩
  | 26 => ⟨S10x5000x7x7x4x4, .f32⟩
  | 27 => ⟨S10x5000x7x7x4x4, .f32⟩
  | 28 => ⟨S_, .f32⟩
  | 29 => ⟨S10x5000x7x7, .f32⟩
  | 30 => ⟨S5000x7x7x4x4, .f32⟩
  | 31 => ⟨S_, .f32⟩
  | 32 => ⟨S5000x7x7, .f32⟩
  | 33 => ⟨S_, .f32⟩
  | 34 => ⟨S5000x7x7, .f32⟩
  | 35 => ⟨S5000x7x7, .i1⟩
  | 36 => ⟨S_, .f32⟩
  | 37 => ⟨S5000x7x7, .f32⟩
  | 38 => ⟨S5000x7x7, .f32⟩
  | 39 => ⟨S1x5000x7x7, .f32⟩
  | 40 => ⟨S10x5000x7x7, .f32⟩
  | 41 => ⟨S10x5000x7x7, .f32⟩
  | 42 => ⟨S_, .f32⟩
  | 43 => ⟨S_, .f32⟩
  | 44 => ⟨S10x5000x7x7, .i1⟩
  | 45 => ⟨S10x5000x7x7, .f32⟩
  | 46 => ⟨S10x5000x7x7, .f32⟩
  | 47 => ⟨S5000x10x7x7, .f32⟩
  | 48 => ⟨S5000x10x49, .f32⟩
  | _ => ⟨S1x490x34x34, .f32⟩

abbrev hbmTy (i : Nat) : BufTy := match i / 128 with
  | 0 => hbmTy0_0 i
  | 1 => hbmTy0_1 i
  | 2 => hbmTy0_2 i
  | 3 => hbmTy0_3 i
  | _ => ⟨S1x490x34x34, .f32⟩

abbrev bufTy : (tb : Table) → Fin (tcTables nBuf tb) → BufTy
  | .hbm, ⟨i, _⟩ => hbmTy i
  | _, _ => ⟨S1x490x34x34, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_call1_v0 : Ref sig .tc := ⟨.hbm, 37, rfl⟩
abbrev main_call1_v1 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_11 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_12 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_13 : Ref sig .tc := ⟨.hbm, 100, rfl⟩
abbrev main_v80 : Ref sig .tc := ⟨.hbm, 101, rfl⟩
abbrev main_v81 : Ref sig .tc := ⟨.hbm, 102, rfl⟩
abbrev main_cst_14 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_15 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_16 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_c : Ref sig .tc := ⟨.hbm, 126, rfl⟩
abbrev main_v102 : Ref sig .tc := ⟨.hbm, 127, rfl⟩
abbrev main_v103 : Ref sig .tc := ⟨.hbm, 128, rfl⟩
abbrev main_c_17 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_c_18 : Ref sig .tc := ⟨.hbm, 133, rfl⟩
abbrev main_v107 : Ref sig .tc := ⟨.hbm, 134, rfl⟩
abbrev main_v108 : Ref sig .tc := ⟨.hbm, 135, rfl⟩
abbrev main_c_19 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_c_20 : Ref sig .tc := ⟨.hbm, 140, rfl⟩
abbrev main_v112 : Ref sig .tc := ⟨.hbm, 141, rfl⟩
abbrev main_v113 : Ref sig .tc := ⟨.hbm, 142, rfl⟩
abbrev main_c_21 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_c_22 : Ref sig .tc := ⟨.hbm, 147, rfl⟩
abbrev main_v117 : Ref sig .tc := ⟨.hbm, 148, rfl⟩
abbrev main_v118 : Ref sig .tc := ⟨.hbm, 149, rfl⟩
abbrev main_c_23 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_c_24 : Ref sig .tc := ⟨.hbm, 156, rfl⟩
abbrev main_c_25 : Ref sig .tc := ⟨.hbm, 157, rfl⟩
abbrev main_call2_v0 : Ref sig .tc := ⟨.hbm, 158, rfl⟩
abbrev main_call2_v1 : Ref sig .tc := ⟨.hbm, 159, rfl⟩
abbrev main_call2_v2 : Ref sig .tc := ⟨.hbm, 160, rfl⟩
abbrev main_call2_v3 : Ref sig .tc := ⟨.hbm, 161, rfl⟩
abbrev main_call2_v4 : Ref sig .tc := ⟨.hbm, 162, rfl⟩
abbrev main_v124 : Ref sig .tc := ⟨.hbm, 163, rfl⟩
abbrev main_c_26 : Ref sig .tc := ⟨.hbm, 164, rfl⟩
abbrev main_c_27 : Ref sig .tc := ⟨.hbm, 165, rfl⟩
abbrev main_call3_v0 : Ref sig .tc := ⟨.hbm, 166, rfl⟩
abbrev main_call3_v1 : Ref sig .tc := ⟨.hbm, 167, rfl⟩
abbrev main_call3_v2 : Ref sig .tc := ⟨.hbm, 168, rfl⟩
abbrev main_call3_v3 : Ref sig .tc := ⟨.hbm, 169, rfl⟩
abbrev main_call3_v4 : Ref sig .tc := ⟨.hbm, 170, rfl⟩
abbrev main_v125 : Ref sig .tc := ⟨.hbm, 171, rfl⟩
abbrev main_c_28 : Ref sig .tc := ⟨.hbm, 172, rfl⟩
abbrev main_c_29 : Ref sig .tc := ⟨.hbm, 173, rfl⟩
abbrev main_call4_v0 : Ref sig .tc := ⟨.hbm, 174, rfl⟩
abbrev main_call4_v1 : Ref sig .tc := ⟨.hbm, 175, rfl⟩
abbrev main_call4_v2 : Ref sig .tc := ⟨.hbm, 176, rfl⟩
abbrev main_call4_v3 : Ref sig .tc := ⟨.hbm, 177, rfl⟩
abbrev main_call4_v4 : Ref sig .tc := ⟨.hbm, 178, rfl⟩
abbrev main_v126 : Ref sig .tc := ⟨.hbm, 179, rfl⟩
abbrev main_c_30 : Ref sig .tc := ⟨.hbm, 180, rfl⟩
abbrev main_c_31 : Ref sig .tc := ⟨.hbm, 181, rfl⟩
abbrev main_call5_v0 : Ref sig .tc := ⟨.hbm, 182, rfl⟩
abbrev main_call5_v1 : Ref sig .tc := ⟨.hbm, 183, rfl⟩
abbrev main_call5_v2 : Ref sig .tc := ⟨.hbm, 184, rfl⟩
abbrev main_call5_v3 : Ref sig .tc := ⟨.hbm, 185, rfl⟩
abbrev main_call5_v4 : Ref sig .tc := ⟨.hbm, 186, rfl⟩
abbrev main_v127 : Ref sig .tc := ⟨.hbm, 187, rfl⟩
abbrev main_c_32 : Ref sig .tc := ⟨.hbm, 188, rfl⟩
abbrev main_v128 : Ref sig .tc := ⟨.hbm, 189, rfl⟩
abbrev main_v129 : Ref sig .tc := ⟨.hbm, 190, rfl⟩
abbrev main_c_33 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_c_34 : Ref sig .tc := ⟨.hbm, 195, rfl⟩
abbrev main_v133 : Ref sig .tc := ⟨.hbm, 196, rfl⟩
abbrev main_v134 : Ref sig .tc := ⟨.hbm, 197, rfl⟩
abbrev main_c_35 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_c_36 : Ref sig .tc := ⟨.hbm, 202, rfl⟩
abbrev main_v138 : Ref sig .tc := ⟨.hbm, 203, rfl⟩
abbrev main_v139 : Ref sig .tc := ⟨.hbm, 204, rfl⟩
abbrev main_c_37 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_c_38 : Ref sig .tc := ⟨.hbm, 209, rfl⟩
abbrev main_v143 : Ref sig .tc := ⟨.hbm, 210, rfl⟩
abbrev main_v144 : Ref sig .tc := ⟨.hbm, 211, rfl⟩
abbrev main_c_39 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_c_40 : Ref sig .tc := ⟨.hbm, 233, rfl⟩
abbrev main_v165 : Ref sig .tc := ⟨.hbm, 234, rfl⟩
abbrev main_v166 : Ref sig .tc := ⟨.hbm, 235, rfl⟩
abbrev main_c_41 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_c_42 : Ref sig .tc := ⟨.hbm, 240, rfl⟩
abbrev main_v170 : Ref sig .tc := ⟨.hbm, 241, rfl⟩
abbrev main_v171 : Ref sig .tc := ⟨.hbm, 242, rfl⟩
abbrev main_c_43 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_c_44 : Ref sig .tc := ⟨.hbm, 247, rfl⟩
abbrev main_v175 : Ref sig .tc := ⟨.hbm, 248, rfl⟩
abbrev main_v176 : Ref sig .tc := ⟨.hbm, 249, rfl⟩
abbrev main_c_45 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_c_46 : Ref sig .tc := ⟨.hbm, 254, rfl⟩
abbrev main_v180 : Ref sig .tc := ⟨.hbm, 255, rfl⟩
abbrev main_v181 : Ref sig .tc := ⟨.hbm, 256, rfl⟩
abbrev main_c_47 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_c_48 : Ref sig .tc := ⟨.hbm, 278, rfl⟩
abbrev main_v202 : Ref sig .tc := ⟨.hbm, 279, rfl⟩
abbrev main_v203 : Ref sig .tc := ⟨.hbm, 280, rfl⟩
abbrev main_c_49 : Ref sig .tc := ⟨.hbm, 281, rfl⟩
abbrev main_v204 : Ref sig .tc := ⟨.hbm, 282, rfl⟩
abbrev main_v205 : Ref sig .tc := ⟨.hbm, 283, rfl⟩
abbrev main_v206 : Ref sig .tc := ⟨.hbm, 284, rfl⟩
abbrev main_c_50 : Ref sig .tc := ⟨.hbm, 285, rfl⟩
abbrev main_v207 : Ref sig .tc := ⟨.hbm, 286, rfl⟩
abbrev main_v208 : Ref sig .tc := ⟨.hbm, 287, rfl⟩
abbrev main_c_51 : Ref sig .tc := ⟨.hbm, 288, rfl⟩
abbrev main_v209 : Ref sig .tc := ⟨.hbm, 289, rfl⟩
abbrev main_v210 : Ref sig .tc := ⟨.hbm, 290, rfl⟩
abbrev main_v211 : Ref sig .tc := ⟨.hbm, 291, rfl⟩
abbrev main_c_52 : Ref sig .tc := ⟨.hbm, 292, rfl⟩
abbrev main_v212 : Ref sig .tc := ⟨.hbm, 293, rfl⟩
abbrev main_v213 : Ref sig .tc := ⟨.hbm, 294, rfl⟩
abbrev main_c_53 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_c_54 : Ref sig .tc := ⟨.hbm, 299, rfl⟩
abbrev main_v217 : Ref sig .tc := ⟨.hbm, 300, rfl⟩
abbrev main_v218 : Ref sig .tc := ⟨.hbm, 301, rfl⟩
abbrev main_c_55 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_v227 : Ref sig .tc := ⟨.hbm, 311, rfl⟩
abbrev main_v228 : Ref sig .tc := ⟨.hbm, 312, rfl⟩
abbrev main_v229 : Ref sig .tc := ⟨.hbm, 313, rfl⟩
abbrev main_v230 : Ref sig .tc := ⟨.hbm, 314, rfl⟩
abbrev main_v231 : Ref sig .tc := ⟨.hbm, 315, rfl⟩
abbrev main_v232 : Ref sig .tc := ⟨.hbm, 316, rfl⟩
abbrev main_v233 : Ref sig .tc := ⟨.hbm, 317, rfl⟩
abbrev main_v234 : Ref sig .tc := ⟨.hbm, 318, rfl⟩
abbrev main_v235 : Ref sig .tc := ⟨.hbm, 319, rfl⟩
abbrev main_v236 : Ref sig .tc := ⟨.hbm, 320, rfl⟩
abbrev main_v237 : Ref sig .tc := ⟨.hbm, 321, rfl⟩
abbrev main_v238 : Ref sig .tc := ⟨.hbm, 322, rfl⟩
abbrev main_c_56 : Ref sig .tc := ⟨.hbm, 323, rfl⟩
abbrev main_v239 : Ref sig .tc := ⟨.hbm, 324, rfl⟩
abbrev main_v240 : Ref sig .tc := ⟨.hbm, 325, rfl⟩
abbrev main_c_57 : Ref sig .tc := ⟨.hbm, 326, rfl⟩
abbrev main_v241 : Ref sig .tc := ⟨.hbm, 327, rfl⟩
abbrev main_v242 : Ref sig .tc := ⟨.hbm, 328, rfl⟩
abbrev main_v243 : Ref sig .tc := ⟨.hbm, 329, rfl⟩
abbrev main_c_58 : Ref sig .tc := ⟨.hbm, 330, rfl⟩
abbrev main_v244 : Ref sig .tc := ⟨.hbm, 331, rfl⟩
abbrev main_v245 : Ref sig .tc := ⟨.hbm, 332, rfl⟩
abbrev main_c_59 : Ref sig .tc := ⟨.hbm, 333, rfl⟩
abbrev main_v246 : Ref sig .tc := ⟨.hbm, 334, rfl⟩
abbrev main_v247 : Ref sig .tc := ⟨.hbm, 335, rfl⟩
abbrev main_v248 : Ref sig .tc := ⟨.hbm, 336, rfl⟩
abbrev main_c_60 : Ref sig .tc := ⟨.hbm, 337, rfl⟩
abbrev main_v249 : Ref sig .tc := ⟨.hbm, 338, rfl⟩
abbrev main_v250 : Ref sig .tc := ⟨.hbm, 339, rfl⟩
abbrev main_c_61 : Ref sig .tc := ⟨.hbm, 340, rfl⟩
abbrev main_v251 : Ref sig .tc := ⟨.hbm, 341, rfl⟩
abbrev main_v252 : Ref sig .tc := ⟨.hbm, 342, rfl⟩
abbrev main_v253 : Ref sig .tc := ⟨.hbm, 343, rfl⟩
abbrev main_c_62 : Ref sig .tc := ⟨.hbm, 344, rfl⟩
abbrev main_v254 : Ref sig .tc := ⟨.hbm, 345, rfl⟩
abbrev main_v255 : Ref sig .tc := ⟨.hbm, 346, rfl⟩
abbrev main_c_63 : Ref sig .tc := ⟨.hbm, 347, rfl⟩
abbrev main_v256 : Ref sig .tc := ⟨.hbm, 348, rfl⟩
abbrev main_v257 : Ref sig .tc := ⟨.hbm, 349, rfl⟩
abbrev main_v258 : Ref sig .tc := ⟨.hbm, 350, rfl⟩
abbrev main_v259 : Ref sig .tc := ⟨.hbm, 351, rfl⟩
abbrev main_v260 : Ref sig .tc := ⟨.hbm, 352, rfl⟩
abbrev main_v261 : Ref sig .tc := ⟨.hbm, 353, rfl⟩
abbrev main_v262 : Ref sig .tc := ⟨.hbm, 354, rfl⟩
abbrev main_v263 : Ref sig .tc := ⟨.hbm, 355, rfl⟩
abbrev main_v264 : Ref sig .tc := ⟨.hbm, 356, rfl⟩
abbrev main_v265 : Ref sig .tc := ⟨.hbm, 357, rfl⟩
abbrev main_v266 : Ref sig .tc := ⟨.hbm, 358, rfl⟩
abbrev main_v267 : Ref sig .tc := ⟨.hbm, 359, rfl⟩
abbrev main_v268 : Ref sig .tc := ⟨.hbm, 360, rfl⟩
abbrev main_v269 : Ref sig .tc := ⟨.hbm, 361, rfl⟩
abbrev main_v270 : Ref sig .tc := ⟨.hbm, 362, rfl⟩
abbrev main_v271 : Ref sig .tc := ⟨.hbm, 363, rfl⟩
abbrev main_v272 : Ref sig .tc := ⟨.hbm, 364, rfl⟩
abbrev main_v273 : Ref sig .tc := ⟨.hbm, 365, rfl⟩
abbrev main_v274 : Ref sig .tc := ⟨.hbm, 366, rfl⟩
abbrev main_v275 : Ref sig .tc := ⟨.hbm, 367, rfl⟩
abbrev main_cst_64 : Ref sig .tc := ⟨.hbm, 368, rfl⟩
abbrev main_v276 : Ref sig .tc := ⟨.hbm, 369, rfl⟩
abbrev main_v277 : Ref sig .tc := ⟨.hbm, 370, rfl⟩
abbrev main_cst_65 : Ref sig .tc := ⟨.hbm, 371, rfl⟩
abbrev main_v278 : Ref sig .tc := ⟨.hbm, 372, rfl⟩
abbrev main_v279 : Ref sig .tc := ⟨.hbm, 373, rfl⟩
abbrev main_v280 : Ref sig .tc := ⟨.hbm, 374, rfl⟩
abbrev main_v281 : Ref sig .tc := ⟨.hbm, 375, rfl⟩
abbrev main_v282 : Ref sig .tc := ⟨.hbm, 376, rfl⟩
abbrev main_v283 : Ref sig .tc := ⟨.hbm, 377, rfl⟩
abbrev main_v284 : Ref sig .tc := ⟨.hbm, 378, rfl⟩
abbrev main_v285 : Ref sig .tc := ⟨.hbm, 379, rfl⟩
abbrev main_cst_66 : Ref sig .tc := ⟨.hbm, 380, rfl⟩
abbrev main_v286 : Ref sig .tc := ⟨.hbm, 381, rfl⟩
abbrev main_v287 : Ref sig .tc := ⟨.hbm, 382, rfl⟩
abbrev main_v288 : Ref sig .tc := ⟨.hbm, 383, rfl⟩
abbrev main_v289 : Ref sig .tc := ⟨.hbm, 384, rfl⟩
abbrev main_v290 : Ref sig .tc := ⟨.hbm, 385, rfl⟩
abbrev main_v291 : Ref sig .tc := ⟨.hbm, 386, rfl⟩
abbrev main_v292 : Ref sig .tc := ⟨.hbm, 387, rfl⟩
abbrev main_v293 : Ref sig .tc := ⟨.hbm, 388, rfl⟩
abbrev main_v294 : Ref sig .tc := ⟨.hbm, 389, rfl⟩
abbrev main_cst_67 : Ref sig .tc := ⟨.hbm, 390, rfl⟩
abbrev main_v295 : Ref sig .tc := ⟨.hbm, 391, rfl⟩
abbrev main_v296 : Ref sig .tc := ⟨.hbm, 392, rfl⟩
abbrev main_v297 : Ref sig .tc := ⟨.hbm, 393, rfl⟩
abbrev main_v298 : Ref sig .tc := ⟨.hbm, 394, rfl⟩
abbrev main_v299 : Ref sig .tc := ⟨.hbm, 395, rfl⟩
abbrev main_v300 : Ref sig .tc := ⟨.hbm, 396, rfl⟩
abbrev main_v301 : Ref sig .tc := ⟨.hbm, 397, rfl⟩
abbrev main_v302 : Ref sig .tc := ⟨.hbm, 398, rfl⟩
abbrev main_v303 : Ref sig .tc := ⟨.hbm, 399, rfl⟩
abbrev main_v304 : Ref sig .tc := ⟨.hbm, 400, rfl⟩
abbrev main_v305 : Ref sig .tc := ⟨.hbm, 401, rfl⟩
abbrev main_v306 : Ref sig .tc := ⟨.hbm, 402, rfl⟩
abbrev main_v307 : Ref sig .tc := ⟨.hbm, 403, rfl⟩
abbrev main_v308 : Ref sig .tc := ⟨.hbm, 404, rfl⟩
abbrev main_v309 : Ref sig .tc := ⟨.hbm, 405, rfl⟩
abbrev main_v310 : Ref sig .tc := ⟨.hbm, 406, rfl⟩
abbrev main_cst_68 : Ref sig .tc := ⟨.hbm, 407, rfl⟩
abbrev main_call6_v0 : Ref sig .tc := ⟨.hbm, 408, rfl⟩
abbrev main_call6_v1 : Ref sig .tc := ⟨.hbm, 409, rfl⟩
abbrev main_call6_v2 : Ref sig .tc := ⟨.hbm, 410, rfl⟩
abbrev main_v311 : Ref sig .tc := ⟨.hbm, 411, rfl⟩
abbrev main_cst_69 : Ref sig .tc := ⟨.hbm, 412, rfl⟩
abbrev main_v312 : Ref sig .tc := ⟨.hbm, 413, rfl⟩
abbrev main_v313 : Ref sig .tc := ⟨.hbm, 414, rfl⟩
abbrev main_cst_70 : Ref sig .tc := ⟨.hbm, 415, rfl⟩
abbrev main_v314 : Ref sig .tc := ⟨.hbm, 416, rfl⟩
abbrev main_cst_71 : Ref sig .tc := ⟨.hbm, 417, rfl⟩
abbrev main_v315 : Ref sig .tc := ⟨.hbm, 418, rfl⟩
abbrev main_v316 : Ref sig .tc := ⟨.hbm, 419, rfl⟩
abbrev main_cst_72 : Ref sig .tc := ⟨.hbm, 420, rfl⟩
abbrev main_v317 : Ref sig .tc := ⟨.hbm, 421, rfl⟩
abbrev main_v318 : Ref sig .tc := ⟨.hbm, 422, rfl⟩
abbrev main_v319 : Ref sig .tc := ⟨.hbm, 423, rfl⟩
abbrev main_v320 : Ref sig .tc := ⟨.hbm, 424, rfl⟩
abbrev main_v321 : Ref sig .tc := ⟨.hbm, 425, rfl⟩
abbrev main_cst_73 : Ref sig .tc := ⟨.hbm, 426, rfl⟩
abbrev main_call7_v0 : Ref sig .tc := ⟨.hbm, 427, rfl⟩
abbrev main_call7_v1 : Ref sig .tc := ⟨.hbm, 428, rfl⟩
abbrev main_call7_v2 : Ref sig .tc := ⟨.hbm, 429, rfl⟩
abbrev main_v322 : Ref sig .tc := ⟨.hbm, 430, rfl⟩
abbrev main_v323 : Ref sig .tc := ⟨.hbm, 431, rfl⟩
abbrev main_v324 : Ref sig .tc := ⟨.hbm, 432, rfl⟩

abbrev nD : Nat := 1
abbrev τ : Topo := Topo.v7x

variable {F : FTy → Type} [FloatOps F]
-- ==== Proof.Frames.lean ====
/- The claims that speak of no value: the three frames, and that the named constant is the one the kernel spells. -/
module

public import proofs.«01_k».proof.Defs
public import proofs.«01_k».proof.Proof.Gen.Kernel.Frame
public import proofs.«01_k».proof.Proof.Gen.KernelIdeal.Frame
public import proofs.«01_k».proof.Proof.Gen.Pre_rois_in_unit
public import proofs.«01_k».proof.Proof.Gen.ReferenceIdeal.Run
public import Idealize.ShloMosaic.Lib.Quiescent

@[expose] public section

noncomputable section

namespace Cert.Psroi

open Idealize.ShloMosaic Idealize.SL.Sem

/-- The kernel's program runs from any memory, leaves its arguments alone and every counter at zero. -/
theorem kernel_frame : Cert.quiescent_Kernel := fun m ρ _ => Cert.Kernel.Gen.frame m ρ

/-- So does its idealization. -/
theorem ideal_frame : Cert.quiescent_KernelIdeal := fun m ρ _ => Cert.KernelIdeal.Gen.frame m ρ

/-- So does its idealization from a memory whose boxes lie in the unit square. -/
theorem ideal_frame_unit : Cert.quiescent_KernelIdeal_pre_rois_in_unit := fun m ρ _ => Cert.KernelIdeal.Gen.frame m ρ

/-- The reference runs from any memory and leaves its arguments alone; it has no counters. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The same from a memory whose boxes lie in the unit square. -/
theorem reference_frame_unit : Cert.quiescent_ReferenceIdeal_pre_rois_in_unit := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The named constant is one fourteenth, and its pattern in the kernel is that of one fourteenth rounded. -/
theorem constant_named : Cert.preserves_Kernel_KernelIdeal :=
  IdealRules.named_const.statement Cert.KernelIdeal.κ "one_fourteenth" .f32 0x3D924925#32 ((14⁻¹ : ℝ) : EReal) rfl

end Cert.Psroi

end
-- ==== Proof.Pooled.lean ====
/- What the kernel computes of one box and one channel, as one expression over the extended reals. -/
module

public import proofs.«01_k».proof.KernelIdeal
public import Idealize.ShloMosaic.Lib.Pointwise

@[expose] public section

noncomputable section

namespace Cert.Psroi

open Idealize.ShloMosaic

/-- The side of a box in cells of the feature map, from its two ends: an eighth of their distance, and at least the
    float nearest one tenth. -/
def side (lo hi : EReal) : EReal :=
  if Ideal.ofBits .f32 0x3DCCCCCD#32 < (hi - lo) * Ideal.ofBits .f32 0x3E000000#32
  then (hi - lo) * Ideal.ofBits .f32 0x3E000000#32 else Ideal.ofBits .f32 0x3DCCCCCD#32

/-- The mean offset of a bin's samples along one side: that side over fourteen. -/
def offset (lo hi : EReal) : EReal := side lo hi * ((14⁻¹ : ℝ) : EReal)

/-- One bilinear reading between four corners, at offset `a` along and `b` down. -/
def blend (a b v00 v01 v10 v11 : EReal) : EReal :=
  (1 - a) * (1 - b) * v00 + a * (1 - b) * v01 + ((1 - a) * b * v10 + a * b * v11)

/-- Box `n` pooled over channel `k` of the feature map: one bilinear reading in the map's first cell. -/
def pooled (ft : KernelIdeal.S1x490x34x34.Idx → EReal) (rois : KernelIdeal.S5000x5.Idx → EReal)
    (n : Fin 5000) (k : Fin 490) : EReal :=
  blend (offset (rois (ix2 n 1)) (rois (ix2 n 3))) (offset (rois (ix2 n 2)) (rois (ix2 n 4)))
    (ft (ix4 0 k 0 0)) (ft (ix4 0 k 0 1)) (ft (ix4 0 k 1 0)) (ft (ix4 0 k 1 1))

end Cert.Psroi

end
-- ==== Proof.KernelValue.lean ====
/- What the kernel computes: its coefficients, its product with the corners, and the whole result. -/
module

public import proofs.«01_k».proof.Proof.Gen.KernelIdeal.Frame
public import proofs.«01_k».proof.Proof.Pooled
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Psroi.Kernel

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The kernel's named constant is one fourteenth. -/
theorem named_fourteenth :
    Named.named (F := Ideal) κ "one_fourteenth" (φ := .f32) 0x3D924925#32 = ((14⁻¹ : ℝ) : EReal) :=
  IdealRules.named_const.ideal_named_scalar _ _ _ _ rfl

/-- Row 0 of the coefficients: the weight of the corner at the origin. -/
theorem coefficient0 (v : Vec Ideal S1x5x1000 .f32) (n : Fin 1000) :
    k0_pay2 (F := Ideal) v (ix2 0 n)
      = (1 - offset (v (ix3 0 1 n)) (v (ix3 0 3 n))) * (1 - offset (v (ix3 0 2 n)) (v (ix3 0 4 n))) := by
  unfold k0_pay2
  pointwise
  rw [named_fourteenth]
  rfl

/-- Row 1: the weight of the corner one step along. -/
theorem coefficient1 (v : Vec Ideal S1x5x1000 .f32) (n : Fin 1000) :
    k0_pay2 (F := Ideal) v (ix2 1 n)
      = offset (v (ix3 0 1 n)) (v (ix3 0 3 n)) * (1 - offset (v (ix3 0 2 n)) (v (ix3 0 4 n))) := by
  unfold k0_pay2
  pointwise
  rw [named_fourteenth]
  rfl

/-- Row 2: the weight of the corner one step down. -/
theorem coefficient2 (v : Vec Ideal S1x5x1000 .f32) (n : Fin 1000) :
    k0_pay2 (F := Ideal) v (ix2 2 n)
      = (1 - offset (v (ix3 0 1 n)) (v (ix3 0 3 n))) * offset (v (ix3 0 2 n)) (v (ix3 0 4 n)) := by
  unfold k0_pay2
  pointwise
  rw [named_fourteenth]
  rfl

/-- Row 3: the weight of the corner one step along and one step down. -/
theorem coefficient3 (v : Vec Ideal S1x5x1000 .f32) (n : Fin 1000) :
    k0_pay2 (F := Ideal) v (ix2 3 n)
      = offset (v (ix3 0 1 n)) (v (ix3 0 3 n)) * offset (v (ix3 0 2 n)) (v (ix3 0 4 n)) := by
  unfold k0_pay2
  pointwise
  rw [named_fourteenth]
  rfl

/-- The stored block at an index: four coefficients against two columns of `x` and two of `y`. -/
theorem product (w : FVec Ideal S4x1000 .f32) (x y : Vec Ideal S490x2 .f32) (n : Fin 1000) (k : Fin 490) :
    k0_pay1 (F := Ideal) w x y (ix2 n k)
      = w (ix2 0 n) * x (ix2 k 0) + w (ix2 1 n) * x (ix2 k 1)
        + (w (ix2 2 n) * y (ix2 k 0) + w (ix2 3 n) * y (ix2 k 1)) := by
  unfold k0_pay1
  pointwise
  rw [Fin.sum_univ_two, Fin.sum_univ_two]
  rfl

/-- The feature map as the kernel finds it, one row per channel: its cells are counted row by row. -/
theorem feature_rows (c : Dev nD) (k : Fin 490) (p : Fin 1156) :
    V m c main_call0_v0 (ix2 k p)
      = m ((c : Thread nD τ).loc main_arg0) (ix4 0 k ⟨p.val / 34, by omega⟩ ⟨p.val % 34, by omega⟩) := by
  unfold V V0
  after_reads_at

/-- The boxes as the kernel finds them, in five blocks of a thousand, one row per coordinate. -/
theorem box_rows (c : Dev nD) (t : Fin 5) (j : Fin 5) (n : Fin 1000) :
    V m c main_call0_v2 (ix3 t j n)
      = m ((c : Thread nD τ).loc main_arg1) (ix2 ⟨t.val * 1000 + n.val, by omega⟩ j) := by
  unfold V V0
  after_reads_at

/-- Where the windows' blocks lie: the map's first block throughout, the boxes' and the result's at the point. -/
theorem index_facts : ∀ t : Fin cfg0.N, win0_0.index t = ![0, 0] ∧ win0_1.index t = ![t.val, 0, 0]
    ∧ win0_2.index t = ![t.val, 0] := by decide +kernel

/-- The feature map's staging buffer at an index: the map's element of that channel, its cell counted row by row. -/
theorem feature (c : Dev nD) (t : Fin cfg0.N) (k : Fin 490) (p : Fin 128) :
    X0_0 m c t (ix2 k p)
      = m ((c : Thread nD τ).loc main_arg0) (ix4 0 k ⟨p.val / 34, by omega⟩ ⟨p.val % 34, by omega⟩) := by
  unfold X0_0 Pipeline.Window.fill
  rw [dif_pos (moved0_0 t _)]
  refine Eq.trans ?_ (feature_rows m c k ⟨p.val, by omega⟩)
  blk_ext [iblk, index_facts t]

/-- The boxes' staging buffer at an index: the coordinate of the block's box. -/
theorem box (c : Dev nD) (t : Fin cfg0.N) (j : Fin 5) (n : Fin 1000) :
    iblk m c 1 t (ix3 0 j n)
      = m ((c : Thread nD τ).loc main_arg1)
          (ix2 ⟨t.val * 1000 + n.val, by have := t.isLt; have := N_0; have : cfg0.N = 5 := N_0; omega⟩ j) := by
  refine Eq.trans ?_ (box_rows m c ⟨t.val, by have := t.isLt; have : cfg0.N = 5 := N_0; omega⟩ j n)
  blk_ext [iblk, index_facts t]

/-- The kernel's result array before its last reshape: box `n` pooled over channel `k`. -/
theorem final (c : Dev nD) : (dats m 0 c).arrAt 2 cfg0.N
    = fun i : S5000x490.Idx => pooled (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  unfold outsAt0
  frame_out
  change S1000x490.Idx at y
  idx_vars y
  rw [product, coefficient0, coefficient1, coefficient2, coefficient3]
  simp only [box]
  have e : ((View.whole main_call0_v3).slice (win0_2.rect t)).emb (ix2 y0 y1)
      = ix2 ⟨t.val * 1000 + y0.val, by have := t.isLt; have : cfg0.grid.N = 5 := N_0; omega⟩ y1 := by
    blk_ext [index_facts t]
  rw [e]
  have h0 (q : Fin 2) : k0_pay3 (View.ld (X0_0 m c t) (Rect.unit ![0, 0] ![490, 2] inb_S490x128_S490x2_0_0)) (ix2 y1 q)
      = m ((c : Thread nD τ).loc main_arg0) (ix4 0 y1 0 ⟨q.val, by omega⟩) := by
    unfold k0_pay3
    pointwise
    rw [feature]
    blk_ext
  have h1 (q : Fin 2) : View.ld (X0_0 m c t) (Rect.unit ![0, 34] ![490, 2] inb_S490x128_S490x2_0_34) (ix2 y1 q)
      = m ((c : Thread nD τ).loc main_arg0) (ix4 0 y1 1 ⟨q.val, by omega⟩) := by
    pointwise
    rw [feature]
    blk_ext
  exact congrArg₂ (· + ·)
    (congrArg₂ (· + ·) (congrArg (_ * ·) (h0 0)) (congrArg (_ * ·) (h0 1)))
    (congrArg₂ (· + ·) (congrArg (_ * ·) (h1 0)) (congrArg (_ * ·) (h1 1)))

/-- The kernel runs, its result the boxes pooled channel by channel, its arguments as they were. -/
theorem run : θ_run defs (onTc (τ := τ) (main (F := Ideal))) ⟨m, fun _ => 0, ρ⟩ fun r => ∀ c : Dev nD,
      r.2.mem ((c : Thread nD τ).loc main_v0)
        = shapeCast S5000x10x49 (fun i : S5000x490.Idx => pooled (m ((c : Thread nD τ).loc main_arg0))
            (m ((c : Thread nD τ).loc main_arg1)) (i 0) (i 1)) shapeCasts_S5000x490_S5000x10x49
      ∧ r.2.mem ((c : Thread nD τ).loc main_arg0) = m ((c : Thread nD τ).loc main_arg0)
      ∧ r.2.mem ((c : Thread nD τ).loc main_arg1) = m ((c : Thread nD τ).loc main_arg1) := by
  run_from run_main m ρ & unchanged m ρ
  unfold Pipeline.afterTail₀
  simp only [List.flatten_cons, List.flatten_nil, List.append_nil]
  after_results
  have e := Pipeline.withArrays_arr (cfgs 0).spec launch0.win.arr_inj c (V0 m c)
    (fun w => (dats m 0 c).arrAt w (cfgs 0).N) 2
  exact congrArg (fun x : S5000x490.Idx → EReal => shapeCast S5000x10x49 x shapeCasts_S5000x490_S5000x10x49)
    (e.trans (final m c))

end Cert.Psroi.Kernel

end
-- ==== Proof.Mean.lean ====
/- The arithmetic of the sampling: the constants as numbers, a box's side, and the mean of the sixteen readings. -/
module

public import proofs.«01_k».proof.Proof.Pooled
public import Idealize.ShloMosaic.Lib.IdealHost

@[expose] public section

noncomputable section

namespace Cert.Psroi

open Idealize.ShloMosaic
open scoped BigOperators

/-- The word of one eighth. -/
theorem word_eighth : Ideal.ofBits .f32 0x3E000000#32 = ((1 / 8 : ℝ) : EReal) := by
  simp [Ideal.ofBits, Ideal.ieee, -EReal.coe_mul]; norm_num

/-- The word of eight. -/
theorem word_eight : Ideal.ofBits .f32 0x41000000#32 = ((8 : ℝ) : EReal) := by
  simp [Ideal.ofBits, Ideal.ieee, -EReal.coe_mul]; norm_num

/-- The word of the float nearest one tenth. -/
theorem word_tenth : Ideal.ofBits .f32 0x3DCCCCCD#32 = ((13421773 / 134217728 : ℝ) : EReal) := by
  simp [Ideal.ofBits, Ideal.ieee, -EReal.coe_mul]; norm_num

/-- The word of seven. -/
theorem word_seven : Ideal.ofBits .f32 0x40E00000#32 = ((7 : ℝ) : EReal) := by
  simp [Ideal.ofBits, Ideal.ieee, -EReal.coe_mul]; norm_num

/-- The word of four. -/
theorem word_four : Ideal.ofBits .f32 0x40800000#32 = ((4 : ℝ) : EReal) := by
  simp [Ideal.ofBits, Ideal.ieee, -EReal.coe_mul]; norm_num

/-- The word of one half. -/
theorem word_half : Ideal.ofBits .f32 0x3F000000#32 = ((1 / 2 : ℝ) : EReal) := by
  simp [Ideal.ofBits, Ideal.ieee, -EReal.coe_mul]; norm_num

/-- The word of minus one. -/
theorem word_minus_one : Ideal.ofBits .f32 0xBF800000#32 = ((-1 : ℝ) : EReal) := by
  simp [Ideal.ofBits, Ideal.ieee, -EReal.coe_mul, -EReal.coe_neg]; norm_num

/-- The word of thirty-four. -/
theorem word_thirty_four : Ideal.ofBits .f32 0x42080000#32 = ((34 : ℝ) : EReal) := by
  simp [Ideal.ofBits, Ideal.ieee, -EReal.coe_mul]; norm_num

/-- The side of a box with real ends, as a real number. -/
def sideOf (lo hi : ℝ) : ℝ :=
  if (13421773 / 134217728 : ℝ) < hi * (1 / 8) - lo * (1 / 8) then hi * (1 / 8) - lo * (1 / 8)
  else 13421773 / 134217728

/-- Between real ends the side is the real one. -/
theorem side_coe (lo hi : ℝ) : side (lo : EReal) (hi : EReal) = ((sideOf lo hi : ℝ) : EReal) := by
  unfold side sideOf
  rw [word_eighth, word_tenth, ← EReal.coe_sub, ← EReal.coe_mul, sub_mul]
  simp only [EReal.coe_lt_coe_iff]
  split <;> rfl

/-- A side is positive. -/
theorem sideOf_pos (lo hi : ℝ) : 0 < sideOf lo hi := by
  unfold sideOf
  split
  · rename_i h; linarith
  · norm_num

/-- Between ends in the unit interval the side is at most one eighth. -/
theorem sideOf_le {lo hi : ℝ} (h0 : 0 ≤ lo) (h1 : hi < 1) : sideOf lo hi ≤ 1 / 8 := by
  unfold sideOf
  split
  · linarith
  · norm_num

/-- How far along a box of side `s` its sample `i` of a bin lies. -/
def step (s : ℝ) (i : Fin 4) : ℝ := ((i.val : ℝ) + 1 / 2) * (s * (1 / 7) * (1 / 4))

/-- A sample lies past the start of its cell. -/
theorem step_pos {s : ℝ} (hs : 0 < s) (i : Fin 4) : 0 < step s i := by
  unfold step; positivity

/-- A sample of a box of side at most one eighth lies before the end of its cell. -/
theorem step_lt {s : ℝ} (hs : 0 < s) (h : s ≤ 1 / 8) (i : Fin 4) : step s i < 1 := by
  unfold step
  have hi : (i.val : ℝ) ≤ 3 := by exact_mod_cast Nat.le_of_lt_succ i.isLt
  have : ((i.val : ℝ) + 1 / 2) * (s * (1 / 7) * (1 / 4)) ≤ (3 + 1 / 2) * (s * (1 / 7) * (1 / 4)) := by
    gcongr
  linarith

/-- A sum of nonnegative real multiples of one extended real is the multiple by the sum. -/
theorem sum_coe_mul {n : ℕ} (f : Fin n → ℝ) (hf : ∀ i, 0 ≤ f i) (v : EReal) :
    ∑ i, ((f i : ℝ) : EReal) * v = ((∑ i, f i : ℝ) : EReal) * v := by
  induction n with
  | zero => simp
  | succ n ih =>
    rw [Fin.sum_univ_succ, Fin.sum_univ_succ, ih _ (fun i => hf _), EReal.coe_add,
      EReal.right_distrib_of_nonneg (EReal.coe_nonneg.2 (hf 0))
        (EReal.coe_nonneg.2 (Finset.sum_nonneg fun i _ => hf i.succ))]

/-- The same over two indices. -/
theorem sum_sum_coe_mul {m n : ℕ} (f : Fin m → Fin n → ℝ) (hf : ∀ i j, 0 ≤ f i j) (v : EReal) :
    ∑ i, ∑ j, ((f i j : ℝ) : EReal) * v = ((∑ i, ∑ j, f i j : ℝ) : EReal) * v := by
  rw [← sum_coe_mul _ (fun i => Finset.sum_nonneg fun j _ => hf i j) v]
  exact Finset.sum_congr rfl fun i _ => sum_coe_mul _ (hf i) v

/-- One bilinear reading, as the reference adds it up: the corners down the first column, then down the second. -/
def reading (dx dy : ℝ) (v00 v01 v10 v11 : EReal) : EReal :=
  (((1 - dx) * (1 - dy) : ℝ) : EReal) * v00 + (((1 - dx) * dy : ℝ) : EReal) * v10
    + ((dx * (1 - dy) : ℝ) : EReal) * v01 + ((dx * dy : ℝ) : EReal) * v11

/-- A sixteenth of a sum of multiples, multiple by multiple. -/
theorem sixteenth_add (x y : EReal) :
    (x + y) * ((1 / 16 : ℝ) : EReal) = x * ((1 / 16 : ℝ) : EReal) + y * ((1 / 16 : ℝ) : EReal) := by
  rw [mul_comm, EReal.left_distrib_of_nonneg_of_ne_top (by exact_mod_cast (by norm_num : (0 : ℝ) ≤ 1 / 16))
    (EReal.coe_ne_top _), mul_comm x, mul_comm y]

/-- The mean of the sixteen readings of a bin is one reading at the mean offsets. -/
theorem mean_reading (s t : ℝ) (hs : ∀ i, 0 ≤ step s i ∧ step s i ≤ 1) (ht : ∀ i, 0 ≤ step t i ∧ step t i ≤ 1)
    (v00 v01 v10 v11 : EReal) :
    (∑ i : Fin 4, ∑ j : Fin 4, reading (step s j) (step t i) v00 v01 v10 v11) * ((1 / 16 : ℝ) : EReal)
      = blend (((s : ℝ) : EReal) * ((14⁻¹ : ℝ) : EReal)) (((t : ℝ) : EReal) * ((14⁻¹ : ℝ) : EReal)) v00 v01 v10 v11 := by
  unfold reading
  simp only [Finset.sum_add_distrib]
  rw [sum_sum_coe_mul (fun i j => (1 - step s j) * (1 - step t i))
      (fun i j => mul_nonneg (by linarith [(hs j).2]) (by linarith [(ht i).2])),
    sum_sum_coe_mul (fun i j => (1 - step s j) * step t i) (fun i j => mul_nonneg (by linarith [(hs j).2]) (ht i).1),
    sum_sum_coe_mul (fun i j => step s j * (1 - step t i)) (fun i j => mul_nonneg (hs j).1 (by linarith [(ht i).2])),
    sum_sum_coe_mul (fun i j => step s j * step t i) (fun i j => mul_nonneg (hs j).1 (ht i).1),
    sixteenth_add, sixteenth_add, sixteenth_add]
  have move : ∀ (w : ℝ) (v : EReal), ((w : ℝ) : EReal) * v * ((1 / 16 : ℝ) : EReal) = ((w * (1 / 16) : ℝ) : EReal) * v := by
    intro w v
    rw [mul_assoc, mul_comm v, ← mul_assoc, ← EReal.coe_mul]
  rw [move, move, move, move]
  unfold blend
  rw [← EReal.coe_mul, ← EReal.coe_mul, ← EReal.coe_one, ← EReal.coe_sub, ← EReal.coe_sub, ← EReal.coe_mul,
    ← EReal.coe_mul, ← EReal.coe_mul, ← EReal.coe_mul]
  have e00 : (∑ i : Fin 4, ∑ j : Fin 4, (1 - step s j) * (1 - step t i)) * (1 / 16)
      = (1 - s * 14⁻¹) * (1 - t * 14⁻¹) := by
    simp [Fin.sum_univ_succ, step]; ring
  have e10 : (∑ i : Fin 4, ∑ j : Fin 4, (1 - step s j) * step t i) * (1 / 16) = (1 - s * 14⁻¹) * (t * 14⁻¹) := by
    simp [Fin.sum_univ_succ, step]; ring
  have e01 : (∑ i : Fin 4, ∑ j : Fin 4, step s j * (1 - step t i)) * (1 / 16) = s * 14⁻¹ * (1 - t * 14⁻¹) := by
    simp [Fin.sum_univ_succ, step]; ring
  have e11 : (∑ i : Fin 4, ∑ j : Fin 4, step s j * step t i) * (1 / 16) = s * 14⁻¹ * (t * 14⁻¹) := by
    simp [Fin.sum_univ_succ, step]; ring
  rw [e00, e10, e01, e11, add_assoc, add_assoc, add_assoc]
  exact congrArg _ (add_left_comm _ _ _)

end Cert.Psroi

end

end
-- ==== Proof.RefSample.lean ====
/- Where the reference samples a box: its coordinates, its cell, its masks and its weights, value by value. -/
module

public import proofs.«01_k».proof.Proof.Gen.ReferenceIdeal.Run
public import proofs.«01_k».proof.Proof.Mean
public import Idealize.ShloMosaic.Lib.Pointwise
public import Idealize.ShloMosaic.Lib.Tactic.CleanTypes

@[expose] public section

set_option maxRecDepth 16384

noncomputable section

namespace Cert.Psroi.Reference

open Idealize.ShloMosaic
open Cert.ReferenceIdeal Cert.ReferenceIdeal.Gen Cert.ReferenceIdeal.Value

variable (V0 : Valuation τ sig (Elt Ideal))

/-- A quotient of a real by a nonzero real is real. -/
theorem div_real (x y : ℝ) (hy : y ≠ 0) : Ideal.div ((x : ℝ) : EReal) ((y : ℝ) : EReal) = ((x * (1 / y) : ℝ) : EReal) := by
  rw [Ideal.div_coe hy, ← EReal.coe_mul]

/-- A small word read as a signed integer is its number. -/
theorem sitofp_small (k : ℕ) (hk : k < 100) :
    (FloatOps.sitofp (F := Ideal) FTy.f32 (BitVec.ofNat 32 k) : EReal) = ((k : ℝ) : EReal) := by
  show (((BitVec.ofNat 32 k).toInt : ℝ) : EReal) = _
  have : (BitVec.ofNat 32 k).toInt = (k : ℤ) := by
    rw [BitVec.toInt_eq_toNat_of_lt (by rw [BitVec.toNat_ofNat]; omega), BitVec.toNat_ofNat]; omega
  rw [this]; norm_num

/-- A real strictly inside the unit interval has floor 0. -/
theorem floor_unit {r : ℝ} (h0 : 0 ≤ r) (h1 : r < 1) : Ideal.liftRound Int.floor ((r : ℝ) : EReal) = ((0 : ℝ) : EReal) := by
  have : ⌊r⌋ = 0 := Int.floor_eq_iff.2 ⟨by simpa using h0, by simpa using h1⟩
  show ((((⌊r⌋ : ℤ)) : ℝ) : EReal) = _
  rw [this]; norm_num

/-- A positive real at most 1 has ceiling 1. -/
theorem ceil_unit {r : ℝ} (h0 : 0 < r) (h1 : r ≤ 1) : Ideal.liftRound Int.ceil ((r : ℝ) : EReal) = ((1 : ℝ) : EReal) := by
  have : ⌈r⌉ = 1 := Int.ceil_eq_iff.2 ⟨by simpa using h0, by simpa using h1⟩
  show ((((⌈r⌉ : ℤ)) : ℝ) : EReal) = _
  rw [this]; norm_num

/-- Zero as a signed word. -/
theorem fptosi_zero : FloatOps.fptosi (F := Ideal) (φ := .f32) 32 (((0 : ℝ) : EReal) : Ideal .f32) = 0#32 := by
  show BitVec.ofInt 32 (max _ (min _ (if (0 : ℝ) ≤ 0 then ⌊(0 : ℝ)⌋ else ⌈(0 : ℝ)⌉))) = _
  simp

/-- One as a signed word. -/
theorem fptosi_one : FloatOps.fptosi (F := Ideal) (φ := .f32) 32 (((1 : ℝ) : EReal) : Ideal .f32) = 1#32 := by
  show BitVec.ofInt 32 (max _ (min _ (if (0 : ℝ) ≤ 1 then ⌊(1 : ℝ)⌋ else ⌈(1 : ℝ)⌉))) = _
  simp

/-- The one-bit word 1 as a number. -/
theorem uitofp_one : (FloatOps.uitofp (F := Ideal) FTy.f32 1#1 : EReal) = 1 := by
  show (((1#1 : BitVec 1).toNat : ℝ) : EReal) = 1
  simp

/-- Box `n` has real ends in the unit interval: `x0`, `x1` along and `y0`, `y1` down. -/
structure Box (n : Fin 5000) (x0 x1 y0 y1 : ℝ) : Prop where
  hx0 : (V0 (Proc.devRef .tc main_arg1) (ix2 n 1) : EReal) = ((x0 : ℝ) : EReal)
  hy0 : (V0 (Proc.devRef .tc main_arg1) (ix2 n 2) : EReal) = ((y0 : ℝ) : EReal)
  hx1 : (V0 (Proc.devRef .tc main_arg1) (ix2 n 3) : EReal) = ((x1 : ℝ) : EReal)
  hy1 : (V0 (Proc.devRef .tc main_arg1) (ix2 n 4) : EReal) = ((y1 : ℝ) : EReal)
  x0_nonneg : 0 ≤ x0
  y0_nonneg : 0 ≤ y0
  x0_lt : x0 < 1
  y0_lt : y0 < 1
  x1_lt : x1 < 1
  y1_lt : y1 < 1

variable {V0} {n : Fin 5000} {x0 x1 y0 y1 : ℝ} (B : Box V0 n x0 x1 y0 y1)
include B

/-- The start along is an eighth of the left end. -/
theorem start_along : (res_main_v5 (F := Ideal) V0 (ix1 n) : EReal) = ((x0 * (1 / 8) : ℝ) : EReal) := by
  unfold res_main_v5
  clean_types
  pointwise
  rw [word_eight]
  exact (congrArg (fun x : EReal => Ideal.div x ((8 : ℝ) : EReal)) B.hx0).trans (div_real _ _ (by norm_num))

/-- The start down is an eighth of the top end. -/
theorem start_down : (res_main_v9 (F := Ideal) V0 (ix1 n) : EReal) = ((y0 * (1 / 8) : ℝ) : EReal) := by
  unfold res_main_v9
  clean_types
  pointwise
  rw [word_eight]
  exact (congrArg (fun x : EReal => Ideal.div x ((8 : ℝ) : EReal)) B.hy0).trans (div_real _ _ (by norm_num))

/-- The raw extent along. -/
theorem extent_along : (res_main_v19 (F := Ideal) V0 (ix1 n) : EReal) = ((x1 * (1 / 8) - x0 * (1 / 8) : ℝ) : EReal) := by
  unfold res_main_v19
  clean_types
  pointwise
  rw [word_eight, start_along B]
  rw [EReal.coe_sub]
  exact congrArg (fun x : EReal => x - ((x0 * (1 / 8) : ℝ) : EReal))
    ((congrArg (fun x : EReal => Ideal.div x ((8 : ℝ) : EReal)) B.hx1).trans (div_real _ _ (by norm_num)))

/-- The raw extent down. -/
theorem extent_down : (res_main_v18 (F := Ideal) V0 (ix1 n) : EReal) = ((y1 * (1 / 8) - y0 * (1 / 8) : ℝ) : EReal) := by
  unfold res_main_v18
  clean_types
  pointwise
  rw [word_eight, start_down B]
  rw [EReal.coe_sub]
  exact congrArg (fun x : EReal => x - ((y0 * (1 / 8) : ℝ) : EReal))
    ((congrArg (fun x : EReal => Ideal.div x ((8 : ℝ) : EReal)) B.hy1).trans (div_real _ _ (by norm_num)))

/-- The bin's extent along is a seventh of the side. -/
theorem bin_along : (res_main_v29 (F := Ideal) V0 (ix1 n) : EReal) = ((sideOf x0 x1 * (1 / 7) : ℝ) : EReal) := by
  unfold res_main_v29
  clean_types
  pointwise
  rw [extent_along B, word_seven, word_tenth]
  rw [← div_real _ _ (by norm_num : (7 : ℝ) ≠ 0)]
  refine congrArg (fun x : EReal => Ideal.div x ((7 : ℝ) : EReal)) ?_
  simp only [EReal.coe_lt_coe_iff, sideOf]
  split
  · rfl
  · exact word_tenth

/-- The bin's extent down is a seventh of the side. -/
theorem bin_down : (res_main_v27 (F := Ideal) V0 (ix1 n) : EReal) = ((sideOf y0 y1 * (1 / 7) : ℝ) : EReal) := by
  unfold res_main_v27
  clean_types
  pointwise
  rw [extent_down B, word_seven, word_tenth]
  rw [← div_real _ _ (by norm_num : (7 : ℝ) ≠ 0)]
  refine congrArg (fun x : EReal => Ideal.div x ((7 : ℝ) : EReal)) ?_
  simp only [EReal.coe_lt_coe_iff, sideOf]
  split
  · rfl
  · exact word_tenth

omit B in
/-- The bin's row as a word. -/
theorem row_word (p : Fin 7) : (res_main_v35 (F := Ideal) V0 (ix5 0 p 0 0 0) : BitVec 32) = BitVec.ofNat 32 p.val := by
  unfold res_main_v35
  clean_types
  pointwise

omit B in
/-- The bin's column as a word. -/
theorem column_word (q : Fin 7) : (res_main_v37 (F := Ideal) V0 (ix5 0 0 q 0 0) : BitVec 32) = BitVec.ofNat 32 q.val := by
  unfold res_main_v37
  clean_types
  pointwise

omit B in
/-- A bin's first cell, from its start, its number and a seventh of its side, is cell 0. -/
theorem cell_zero {a s : ℝ} (q : Fin 7) (h0 : 0 ≤ a) (h1 : a < 1) (hs : 0 < s) (h : s ≤ 1 / 8) :
    0 ≤ a * (1 / 8) + (q.val : ℝ) * (s * (1 / 7)) ∧ a * (1 / 8) + (q.val : ℝ) * (s * (1 / 7)) < 1 := by
  have hq : (q.val : ℝ) ≤ 6 := by exact_mod_cast Nat.le_of_lt_succ q.isLt
  refine ⟨by positivity, ?_⟩
  have : (q.val : ℝ) * (s * (1 / 7)) ≤ 6 * (s * (1 / 7)) := by gcongr
  linarith

/-- A sample's coordinate along. -/
theorem sample_along (q : Fin 7) (j : Fin 4) :
    (res_main_v69 (F := Ideal) V0 (ix5 n 0 q 0 j) : EReal) = ((step (sideOf x0 x1) j : ℝ) : EReal) := by
  unfold res_main_v69
  clean_types
  pointwise
  rw [start_along B, column_word, bin_along B, word_half, word_four, sitofp_small _ (by omega), sitofp_small _ (by omega),
    div_real _ _ (by norm_num), ← EReal.coe_mul, ← EReal.coe_add, ← EReal.coe_add, ← EReal.coe_mul,
    floor_unit (cell_zero q B.x0_nonneg B.x0_lt (sideOf_pos _ _) (sideOf_le B.x0_nonneg B.x1_lt)).1
      (cell_zero q B.x0_nonneg B.x0_lt (sideOf_pos _ _) (sideOf_le B.x0_nonneg B.x1_lt)).2,
    ← EReal.coe_add, zero_add]
  rfl

/-- A sample's coordinate down. -/
theorem sample_down (p : Fin 7) (i : Fin 4) :
    (res_main_v79 (F := Ideal) V0 (ix5 n p 0 i 0) : EReal) = ((step (sideOf y0 y1) i : ℝ) : EReal) := by
  unfold res_main_v79
  clean_types
  pointwise
  rw [start_down B, row_word, bin_down B, word_half, word_four, sitofp_small _ (by omega), sitofp_small _ (by omega),
    div_real _ _ (by norm_num), ← EReal.coe_mul, ← EReal.coe_add, ← EReal.coe_add, ← EReal.coe_mul,
    floor_unit (cell_zero p B.y0_nonneg B.y0_lt (sideOf_pos _ _) (sideOf_le B.y0_nonneg B.y1_lt)).1
      (cell_zero p B.y0_nonneg B.y0_lt (sideOf_pos _ _) (sideOf_le B.y0_nonneg B.y1_lt)).2,
    ← EReal.coe_add, zero_add]
  rfl

/-- Along, a sample's offset in the first cell is strictly between 0 and 1. -/
theorem along_mem (j : Fin 4) : 0 < step (sideOf x0 x1) j ∧ step (sideOf x0 x1) j < 1 :=
  ⟨step_pos (sideOf_pos _ _) j, step_lt (sideOf_pos _ _) (sideOf_le B.x0_nonneg B.x1_lt) j⟩

/-- Down, a sample's offset in the first cell is strictly between 0 and 1. -/
theorem down_mem (i : Fin 4) : 0 < step (sideOf y0 y1) i ∧ step (sideOf y0 y1) i < 1 :=
  ⟨step_pos (sideOf_pos _ _) i, step_lt (sideOf_pos _ _) (sideOf_le B.y0_nonneg B.y1_lt) i⟩

/-- Every sample is kept. -/
theorem kept (p q : Fin 7) (i j : Fin 4) : (res_main_v93 (F := Ideal) V0 (ix5 n p q i j) : BitVec 1) = 1#1 := by
  unfold res_main_v93
  clean_types
  pointwise
  rw [sample_along B, sample_down B, word_minus_one, word_thirty_four]
  simp only [EReal.coe_lt_coe_iff]
  have ha := along_mem B j
  have hd := down_mem B i
  rw [decide_eq_true (by linarith), decide_eq_true (by linarith), decide_eq_true (by linarith), decide_eq_true (by linarith)]
  rfl

/-- Every sample's cell along starts at 0. -/
theorem floor_along (q : Fin 7) (j : Fin 4) : (res_main_v94 (F := Ideal) V0 (ix5 n 0 q 0 j) : EReal) = ((0 : ℝ) : EReal) := by
  unfold res_main_v94
  clean_types
  pointwise
  rw [sample_along B, floor_unit (along_mem B j).1.le (along_mem B j).2]

/-- Every sample's cell down starts at 0. -/
theorem floor_down (p : Fin 7) (i : Fin 4) : (res_main_v96 (F := Ideal) V0 (ix5 n p 0 i 0) : EReal) = ((0 : ℝ) : EReal) := by
  unfold res_main_v96
  clean_types
  pointwise
  rw [sample_down B, floor_unit (down_mem B i).1.le (down_mem B i).2]

/-- The first column read is 0. -/
theorem first_column (q : Fin 7) (j : Fin 4) : (res_main_v98 (F := Ideal) V0 (ix5 n 0 q 0 j) : BitVec 32) = 0#32 := by
  unfold res_main_v98
  clean_types
  pointwise
  rw [floor_along B]
  exact fptosi_zero

/-- The second column read is 1. -/
theorem second_column (q : Fin 7) (j : Fin 4) : (res_main_v99 (F := Ideal) V0 (ix5 n 0 q 0 j) : BitVec 32) = 1#32 := by
  unfold res_main_v99
  clean_types
  pointwise
  rw [sample_along B, ceil_unit (along_mem B j).1 (along_mem B j).2.le]
  exact fptosi_one

/-- The first row read is 0. -/
theorem first_row (p : Fin 7) (i : Fin 4) : (res_main_v100 (F := Ideal) V0 (ix5 n p 0 i 0) : BitVec 32) = 0#32 := by
  unfold res_main_v100
  clean_types
  pointwise
  rw [floor_down B]
  exact fptosi_zero

/-- The second row read is 1. -/
theorem second_row (p : Fin 7) (i : Fin 4) : (res_main_v101 (F := Ideal) V0 (ix5 n p 0 i 0) : BitVec 32) = 1#32 := by
  unfold res_main_v101
  clean_types
  pointwise
  rw [sample_down B, ceil_unit (down_mem B i).1 (down_mem B i).2.le]
  exact fptosi_one

/-- The first column is inside the map. -/
theorem first_column_valid (q : Fin 7) (j : Fin 4) : (res_main_v106 (F := Ideal) V0 (ix5 n 0 q 0 j) : BitVec 1) = 1#1 := by
  unfold res_main_v106
  clean_types
  pointwise
  rw [first_column B]; rfl

/-- The second column is inside the map. -/
theorem second_column_valid (q : Fin 7) (j : Fin 4) : (res_main_v111 (F := Ideal) V0 (ix5 n 0 q 0 j) : BitVec 1) = 1#1 := by
  unfold res_main_v111
  clean_types
  pointwise
  rw [second_column B]; rfl

/-- The first row is inside the map. -/
theorem first_row_valid (p : Fin 7) (i : Fin 4) : (res_main_v116 (F := Ideal) V0 (ix5 n p 0 i 0) : BitVec 1) = 1#1 := by
  unfold res_main_v116
  clean_types
  pointwise
  rw [first_row B]; rfl

/-- The second row is inside the map. -/
theorem second_row_valid (p : Fin 7) (i : Fin 4) : (res_main_v121 (F := Ideal) V0 (ix5 n p 0 i 0) : BitVec 1) = 1#1 := by
  unfold res_main_v121
  clean_types
  pointwise
  rw [second_row B]; rfl

/-- A sample's offset along is its coordinate. -/
theorem offset_along (q : Fin 7) (j : Fin 4) :
    (res_main_v122 (F := Ideal) V0 (ix5 n 0 q 0 j) : EReal) = ((step (sideOf x0 x1) j : ℝ) : EReal) := by
  unfold res_main_v122
  clean_types
  pointwise
  rw [sample_along B, floor_along B, ← EReal.coe_sub, sub_zero]

/-- A sample's offset down is its coordinate. -/
theorem offset_down (p : Fin 7) (i : Fin 4) :
    (res_main_v123 (F := Ideal) V0 (ix5 n p 0 i 0) : EReal) = ((step (sideOf y0 y1) i : ℝ) : EReal) := by
  unfold res_main_v123
  clean_types
  pointwise
  rw [sample_down B, floor_down B, ← EReal.coe_sub, sub_zero]

/-- Held inside the map the first column is 0. -/
theorem first_column_held (q : Fin 7) (j : Fin 4) : (res_main_v124 (F := Ideal) V0 (ix5 n 0 q 0 j) : BitVec 32) = 0#32 := by
  unfold res_main_v124
  clean_types
  pointwise
  rw [first_column B]; rfl

/-- Held inside the map the second column is 1. -/
theorem second_column_held (q : Fin 7) (j : Fin 4) : (res_main_v125 (F := Ideal) V0 (ix5 n 0 q 0 j) : BitVec 32) = 1#32 := by
  unfold res_main_v125
  clean_types
  pointwise
  rw [second_column B]; rfl

/-- Held inside the map the first row is 0. -/
theorem first_row_held (p : Fin 7) (i : Fin 4) : (res_main_v126 (F := Ideal) V0 (ix5 n p 0 i 0) : BitVec 32) = 0#32 := by
  unfold res_main_v126
  clean_types
  pointwise
  rw [first_row B]; rfl

/-- Held inside the map the second row is 1. -/
theorem second_row_held (p : Fin 7) (i : Fin 4) : (res_main_v127 (F := Ideal) V0 (ix5 n p 0 i 0) : BitVec 32) = 1#32 := by
  unfold res_main_v127
  clean_types
  pointwise
  rw [second_row B]; rfl

omit B in
/-- The feature map by class and bin is the map's channel of that class and bin. -/
theorem map_by_bin (c : Fin 10) (p q : Fin 7) (y x : Fin 34) :
    (res_main_v1 (F := Ideal) V0 (ix5 c p q y x) : EReal)
      = V0 (Proc.devRef .tc main_arg0) (ix4 0 ⟨c.val * 49 + p.val * 7 + q.val, by omega⟩ y x) := by
  unfold res_main_v1
  clean_types
  pointwise

end Cert.Psroi.Reference

end

end
-- ==== Proof.RefValue.lean ====
/- What the reference computes: every sample's reading, their count, and the pooled result. -/
module

public import proofs.«01_k».proof.Proof.RefSample
public import proofs.«01_k».proof.Proof.KernelValue

@[expose] public section

set_option maxRecDepth 16384

noncomputable section

namespace Cert.Psroi.Reference

open Idealize.ShloMosaic
open Cert.ReferenceIdeal Cert.ReferenceIdeal.Gen Cert.ReferenceIdeal.Value
open scoped BigOperators

/-- The gather's dimension numbers, by a short name. -/
abbrev corners := gather_S10x7x7x34x34_S5000x7x7x4x4x4_S10x5000x7x7x4x4_0_1234_n_n_1234_5_101111

/-- The start-index position of component `k` for a result position. -/
theorem start_position (c : Fin 10) (n : Fin 5000) (p q : Fin 7) (i j : Fin 4) (k : Fin 4) :
    corners.siIdx (ix6 c n p q i j) k = ix6 n p q i j k := by
  funext a
  refine Fin.ext ?_
  match a with
  | ⟨0, _⟩ => rfl
  | ⟨1, _⟩ => rfl
  | ⟨2, _⟩ => rfl
  | ⟨3, _⟩ => rfl
  | ⟨4, _⟩ => rfl
  | ⟨5, _⟩ => rfl

/-- The gather at a position reads the class's map at the bin, row and column its start indices name. -/
theorem gather_corner {α : Type} (x : S10x7x7x34x34.Idx → α) (idx : IVec S5000x7x7x4x4x4 32)
    (c : Fin 10) (n : Fin 5000) (p q : Fin 7) (i j : Fin 4) (row col : Fin 34)
    (hp : (idx (ix6 n p q i j 0)).toInt.toNat = p.val) (hq : (idx (ix6 n p q i j 1)).toInt.toNat = q.val)
    (hr : (idx (ix6 n p q i j 2)).toInt.toNat = row.val) (hc : (idx (ix6 n p q i j 3)).toInt.toNat = col.val) :
    Host.gather corners x idx (ix6 c n p q i j) = x (ix5 c p q row col) := by
  unfold Host.gather
  congr 1
  funext a
  refine Fin.ext ?_
  show corners.start (ix6 c n p q i j) idx a + corners.batchCoord (ix6 c n p q i j) a
    + corners.offCoord (ix6 c n p q i j) a = _
  rw [GatherDims.batchCoord_eq_zero _ _ _ List.not_mem_nil, Nat.add_zero]
  have cases : a = 0 ∨ a = 1 ∨ a = 2 ∨ a = 3 ∨ a = 4 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr (Or.inl rfl)))
    | ⟨4, _⟩ => exact Or.inr (Or.inr (Or.inr (Or.inr rfl)))
  rcases cases with rfl | rfl | rfl | rfl | rfl
  · unfold GatherDims.start
    rw [dif_neg (by decide), Nat.zero_add]
    rfl
  · rw [GatherDims.offCoord_eq_zero _ _ _ (by decide), Nat.add_zero]
    unfold GatherDims.start
    rw [dif_pos (by decide)]
    refine (congrArg (fun z => min (idx z).toInt.toNat 6) (start_position c n p q i j 0)).trans ?_
    show min (idx (ix6 n p q i j 0)).toInt.toNat 6 = p.val
    rw [hp]; omega
  · rw [GatherDims.offCoord_eq_zero _ _ _ (by decide), Nat.add_zero]
    unfold GatherDims.start
    rw [dif_pos (by decide)]
    refine (congrArg (fun z => min (idx z).toInt.toNat 6) (start_position c n p q i j 1)).trans ?_
    show min (idx (ix6 n p q i j 1)).toInt.toNat 6 = q.val
    rw [hq]; omega
  · rw [GatherDims.offCoord_eq_zero _ _ _ (by decide), Nat.add_zero]
    unfold GatherDims.start
    rw [dif_pos (by decide)]
    refine (congrArg (fun z => min (idx z).toInt.toNat 33) (start_position c n p q i j 2)).trans ?_
    show min (idx (ix6 n p q i j 2)).toInt.toNat 33 = row.val
    rw [hr]; omega
  · rw [GatherDims.offCoord_eq_zero _ _ _ (by decide), Nat.add_zero]
    unfold GatherDims.start
    rw [dif_pos (by decide)]
    refine (congrArg (fun z => min (idx z).toInt.toNat 33) (start_position c n p q i j 3)).trans ?_
    show min (idx (ix6 n p q i j 3)).toInt.toNat 33 = col.val
    rw [hc]; omega

/-- A small word, read signed and then as a natural number, is its number. -/
theorem small_toNat (k : ℕ) (hk : k < 100) : (BitVec.ofNat 32 k).toInt.toNat = k := by
  rw [BitVec.toInt_eq_toNat_of_lt (by rw [BitVec.toNat_ofNat]; omega), BitVec.toNat_ofNat, Int.toNat_natCast]
  omega

/-- The gather at start indices laid side by side: bin row, bin column, map row, map column. -/
theorem gather_columns {α : Type} (x : S10x7x7x34x34.Idx → α) (P Q Y X : S5000x7x7x4x4x1.Idx → BitVec 32)
    (c : Fin 10) (n : Fin 5000) (p q : Fin 7) (i j : Fin 4) (row col : Fin 34)
    (hp : P (ix6 n p q i j 0) = BitVec.ofNat 32 p.val) (hq : Q (ix6 n p q i j 0) = BitVec.ofNat 32 q.val)
    (hr : Y (ix6 n p q i j 0) = BitVec.ofNat 32 row.val) (hc : X (ix6 n p q i j 0) = BitVec.ofNat 32 col.val) :
    Host.gather corners x (concatenate S5000x7x7x4x4x4 5 [⟨S5000x7x7x4x4x1, P⟩, ⟨S5000x7x7x4x4x1, Q⟩,
        ⟨S5000x7x7x4x4x1, Y⟩, ⟨S5000x7x7x4x4x1, X⟩]
        concatenates_S5000x7x7x4x4x1_S5000x7x7x4x4x1_S5000x7x7x4x4x1_S5000x7x7x4x4x1_S5000x7x7x4x4x4_d5)
      (ix6 c n p q i j) = x (ix5 c p q row col) := by
  refine gather_corner x _ c n p q i j row col ?_ ?_ ?_ ?_
  · pointwise
    rw [hp, small_toNat _ (by omega)]
  · pointwise
    rw [hq, small_toNat _ (by omega)]
  · pointwise
    rw [hr, small_toNat _ (by omega)]
  · pointwise
    rw [hc, small_toNat _ (by omega)]

/-- A bin number is not negative, so the wrap of negative indices leaves it. -/
theorem wrap_bin : ∀ p : Fin 7, Scalar.select (IntOp.cmpi .slt (BitVec.ofNat 32 p.val) 0#32)
    (IntOp.addi (BitVec.ofNat 32 p.val) 7#32) (BitVec.ofNat 32 p.val) = BitVec.ofNat 32 p.val := by
  decide

/-- A float sum over the last two of six axes, at a position. -/
theorem sum_last_two_of_six (h : S10x5000x7x7x4x4.ReducesTo [4, 5] S10x5000x7x7) (v : S10x5000x7x7x4x4.Idx → EReal)
    (init : EReal) (c : Fin 10) (n : Fin 5000) (p q : Fin 7) :
    Ideal.hostReduceAdd h v init (ix4 c n p q) = init + ∑ i : Fin 4, ∑ j : Fin 4, v (ix6 c n p q i j) := by
  refine congrArg (init + ·) ((Finset.sum_filter_eq_sum_of_fiber _ (fun k : Fin 4 × Fin 4 => ix6 c n p q k.1 k.2)
    (fun _ _ e => Prod.ext (congrFun e 4) (congrFun e 5)) (fun y => ?_) v).trans
      (by simp only [Fintype.sum_prod_type]))
  constructor
  · intro e
    refine ⟨(y 4, y 5), ?_⟩
    funext a
    match a with
    | ⟨0, _⟩ => exact (congrFun e 0).symm
    | ⟨1, _⟩ => exact (congrFun e 1).symm
    | ⟨2, _⟩ => exact (congrFun e 2).symm
    | ⟨3, _⟩ => exact (congrFun e 3).symm
    | ⟨4, _⟩ => rfl
    | ⟨5, _⟩ => rfl
  · rintro ⟨k, rfl⟩
    funext b
    match b with
    | ⟨0, _⟩ => rfl
    | ⟨1, _⟩ => rfl
    | ⟨2, _⟩ => rfl
    | ⟨3, _⟩ => rfl

/-- A float sum over the last two of five axes, at a position. -/
theorem sum_last_two_of_five (h : S5000x7x7x4x4.ReducesTo [3, 4] S5000x7x7) (v : S5000x7x7x4x4.Idx → EReal)
    (init : EReal) (n : Fin 5000) (p q : Fin 7) :
    Ideal.hostReduceAdd h v init (ix3 n p q) = init + ∑ i : Fin 4, ∑ j : Fin 4, v (ix5 n p q i j) := by
  refine congrArg (init + ·) ((Finset.sum_filter_eq_sum_of_fiber _ (fun k : Fin 4 × Fin 4 => ix5 n p q k.1 k.2)
    (fun _ _ e => Prod.ext (congrFun e 3) (congrFun e 4)) (fun y => ?_) v).trans
      (by simp only [Fintype.sum_prod_type]))
  constructor
  · intro e
    refine ⟨(y 3, y 4), ?_⟩
    funext a
    match a with
    | ⟨0, _⟩ => exact (congrFun e 0).symm
    | ⟨1, _⟩ => exact (congrFun e 1).symm
    | ⟨2, _⟩ => exact (congrFun e 2).symm
    | ⟨3, _⟩ => rfl
    | ⟨4, _⟩ => rfl
  · rintro ⟨k, rfl⟩
    funext b
    match b with
    | ⟨0, _⟩ => rfl
    | ⟨1, _⟩ => rfl
    | ⟨2, _⟩ => rfl

variable {V0 : Valuation τ sig (Elt Ideal)} {n : Fin 5000} {x0 x1 y0 y1 : ℝ} (B : Box V0 n x0 x1 y0 y1)
include B

/-- The part of a sample's reading from the first column's two corners. -/
theorem first_column_part (c : Fin 10) (p q : Fin 7) (i j : Fin 4) :
    (res_main_v294 (F := Ideal) V0 (ix6 c n p q i j) : EReal)
      = (((1 - step (sideOf x0 x1) j) * (1 - step (sideOf y0 y1) i) : ℝ) : EReal)
          * res_main_v1 (F := Ideal) V0 (ix5 c p q 0 0)
        + (((1 - step (sideOf x0 x1) j) * step (sideOf y0 y1) i : ℝ) : EReal)
          * res_main_v1 (F := Ideal) V0 (ix5 c p q 1 0) := by
  unfold res_main_v294
  clean_types
  pointwise
  rw [gather_columns (row := 0) (col := 0)]
  rw [gather_columns (row := 1) (col := 0)]
  · rw [offset_along B, offset_down B, first_column_valid B, first_row_valid B, second_row_valid B, ← EReal.coe_one,
      ← EReal.coe_sub, ← EReal.coe_sub, ← EReal.coe_mul, ← EReal.coe_mul]
    show _ * (_ * FloatOps.uitofp (F := Ideal) FTy.f32 1#1) + _ * (_ * FloatOps.uitofp (F := Ideal) FTy.f32 1#1) = _
    rw [uitofp_one, mul_one, mul_one]
  all_goals pointwise
  · rw [row_word, wrap_bin]
  · rw [column_word, wrap_bin]
  · rw [second_row_held B]; rfl
  · rw [first_column_held B]; rfl
  · rw [row_word, wrap_bin]
  · rw [column_word, wrap_bin]
  · rw [first_row_held B]; rfl
  · rw [first_column_held B]; rfl

/-- A sample's whole reading, between the corners of the first cell. -/
theorem sample_reading (c : Fin 10) (p q : Fin 7) (i j : Fin 4) :
    (res_main_v310 (F := Ideal) V0 (ix6 c n p q i j) : EReal)
      = reading (step (sideOf x0 x1) j) (step (sideOf y0 y1) i)
          (res_main_v1 (F := Ideal) V0 (ix5 c p q 0 0)) (res_main_v1 (F := Ideal) V0 (ix5 c p q 0 1))
          (res_main_v1 (F := Ideal) V0 (ix5 c p q 1 0)) (res_main_v1 (F := Ideal) V0 (ix5 c p q 1 1)) := by
  unfold res_main_v310
  clean_types
  pointwise
  rw [gather_columns (row := 0) (col := 1)]
  rw [gather_columns (row := 1) (col := 1)]
  · rw [first_column_part B, offset_along B, offset_down B, second_column_valid B, first_row_valid B, second_row_valid B,
      ← EReal.coe_one, ← EReal.coe_sub, ← EReal.coe_mul, ← EReal.coe_mul]
    show _ + _ * (_ * FloatOps.uitofp (F := Ideal) FTy.f32 1#1) + _ * (_ * FloatOps.uitofp (F := Ideal) FTy.f32 1#1) = _
    rw [uitofp_one, mul_one, mul_one]
    rfl
  all_goals pointwise
  · rw [row_word, wrap_bin]
  · rw [column_word, wrap_bin]
  · rw [second_row_held B]; rfl
  · rw [second_column_held B]; rfl
  · rw [row_word, wrap_bin]
  · rw [column_word, wrap_bin]
  · rw [first_row_held B]; rfl
  · rw [second_column_held B]; rfl

/-- Every bin counts sixteen samples. -/
theorem count_sixteen (p q : Fin 7) : (res_main_v314 (F := Ideal) V0 (ix3 n p q) : EReal) = ((16 : ℝ) : EReal) := by
  unfold res_main_v314
  clean_types
  pointwise
  rw [sum_last_two_of_five]
  have h : ∀ i j : Fin 4, (uitofp (F := Ideal) FTy.f32 (res_main_v93 (F := Ideal) V0) (ix5 n p q i j) : EReal) = ((1 : ℝ) : EReal) := by
    intro i j
    pointwise
    rw [kept B]
    exact uitofp_one
  simp only [h, Finset.sum_const, Finset.card_univ, Fintype.card_fin, ← EReal.coe_nsmul, zero_add]
  norm_num

/-- A bin's mean over its kept samples is the box pooled over the bin's channel. -/
theorem bin_mean (c : Fin 10) (p q : Fin 7) :
    Ideal.div (Ideal.hostReduceAdd reducesTo_S10x5000x7x7x4x4_S10x5000x7x7_d4_5
        (select (broadcastInDim S10x5000x7x7x4x4 ![1, 2, 3, 4, 5]
            bcast_S5000x7x7x4x4_S10x5000x7x7x4x4_1_2_3_4_5 (res_main_v93 (F := Ideal) V0))
          (res_main_v310 (F := Ideal) V0)
          (broadcastInDim S10x5000x7x7x4x4 ![] bcast_S_S10x5000x7x7x4x4
            (id (constant (F := Ideal) S_ .f32 0x00000000#32))))
        0 (ix4 c n p q)) ((16 : ℝ) : EReal)
      = pooled (V0 (Proc.devRef .tc main_arg0)) (V0 (Proc.devRef .tc main_arg1)) n
          ⟨c.val * 49 + p.val * 7 + q.val, by omega⟩ := by
  rw [sum_last_two_of_six, zero_add, Ideal.div_coe (by norm_num)]
  have h : ∀ i j : Fin 4, (select (broadcastInDim S10x5000x7x7x4x4 ![1, 2, 3, 4, 5]
            bcast_S5000x7x7x4x4_S10x5000x7x7x4x4_1_2_3_4_5 (res_main_v93 (F := Ideal) V0))
          (res_main_v310 (F := Ideal) V0)
          (broadcastInDim S10x5000x7x7x4x4 ![] bcast_S_S10x5000x7x7x4x4
            (id (constant (F := Ideal) S_ .f32 0x00000000#32))) (ix6 c n p q i j) : EReal)
      = reading (step (sideOf x0 x1) j) (step (sideOf y0 y1) i)
          (res_main_v1 (F := Ideal) V0 (ix5 c p q 0 0)) (res_main_v1 (F := Ideal) V0 (ix5 c p q 0 1))
          (res_main_v1 (F := Ideal) V0 (ix5 c p q 1 0)) (res_main_v1 (F := Ideal) V0 (ix5 c p q 1 1)) := by
    intro i j
    pointwise
    rw [kept B, ← sample_reading B]
    rfl
  simp only [h]
  rw [mean_reading _ _ (fun j => ⟨(along_mem B j).1.le, (along_mem B j).2.le⟩)
    (fun i => ⟨(down_mem B i).1.le, (down_mem B i).2.le⟩), map_by_bin, map_by_bin, map_by_bin, map_by_bin]
  unfold pooled offset
  rw [← side_coe, ← side_coe, ← B.hx0, ← B.hx1, ← B.hy0, ← B.hy1]

/-- The reference's result at a box, a class and a bin is the pooled value the kernel computes. -/
theorem result_read (c : Fin 10) (r : Fin 49) :
    (shapeCast S5000x10x49 (transpose S5000x10x7x7 [1, 0, 2, 3]
      (select
        (broadcastInDim S10x5000x7x7 ![1, 2, 3] bcast_S5000x7x7_S10x5000x7x7_1_2_3
          (cmpf .une (res_main_v314 (F := Ideal) V0)
            (broadcastInDim S5000x7x7 ![] bcast_S_S5000x7x7 (constant (F := Ideal) S_ .f32 0x00000000#32))))
        (Host.divf
          (Host.reduceAdd
            (select
              (broadcastInDim S10x5000x7x7x4x4 ![1, 2, 3, 4, 5] bcast_S5000x7x7x4x4_S10x5000x7x7x4x4_1_2_3_4_5
                (res_main_v93 (F := Ideal) V0))
              (res_main_v310 (F := Ideal) V0)
              (broadcastInDim S10x5000x7x7x4x4 ![] bcast_S_S10x5000x7x7x4x4
                (id (constant (F := Ideal) S_ .f32 0x00000000#32))))
            (constant (F := Ideal) S_ .f32 0x00000000#32) reducesTo_S10x5000x7x7x4x4_S10x5000x7x7_d4_5 h_S_)
          (broadcastInDim S10x5000x7x7 ![0, 1, 2, 3] bcast_S1x5000x7x7_S10x5000x7x7_0_1_2_3
            (broadcastInDim S1x5000x7x7 ![1, 2, 3] bcast_S5000x7x7_S1x5000x7x7_1_2_3
              (maximumf (res_main_v314 (F := Ideal) V0)
                (broadcastInDim S5000x7x7 ![] bcast_S_S5000x7x7 (constant (F := Ideal) S_ .f32 0x3F800000#32))))))
        (broadcastInDim S10x5000x7x7 ![] bcast_S_S10x5000x7x7 (id (constant (F := Ideal) S_ .f32 0x00000000#32))))
      transposes_S10x5000x7x7_S5000x10x7x7_1_0_2_3) shapeCasts_S5000x10x7x7_S5000x10x49
      : S5000x10x49.Idx → EReal) (ix3 n c r)
    = (shapeCast S5000x10x49 (fun i : Cert.KernelIdeal.S5000x490.Idx =>
        pooled (V0 (Proc.devRef .tc main_arg0)) (V0 (Proc.devRef .tc main_arg1)) (i 0) (i 1))
      Cert.KernelIdeal.Gen.shapeCasts_S5000x490_S5000x10x49 : S5000x10x49.Idx → EReal) (ix3 n c r) := by
  clean_types
  pointwise
  rw [count_sixteen B, if_pos (by exact_mod_cast (by norm_num : (16 : ℝ) ≠ 0)),
    max_eq_left (by exact_mod_cast (by norm_num : (1 : ℝ) ≤ 16))]
  have hmean := bin_mean B c ⟨r.val / 7, by omega⟩ ⟨r.val % 7, by omega⟩
  have hk : (⟨c.val * 49 + r.val / 7 * 7 + r.val % 7, by omega⟩ : Fin 490) = ⟨c.val * 49 + r.val, by omega⟩ :=
    Fin.ext (by show c.val * 49 + r.val / 7 * 7 + r.val % 7 = c.val * 49 + r.val; omega)
  rw [hk] at hmean
  exact hmean

end Cert.Psroi.Reference

end

end
-- ==== Proof.Unit.lean ====
/- What the precondition says of one box: its four coordinates are reals in the unit interval. -/
module

public import proofs.«01_k».proof.Proof.Gen.Pre_rois_in_unit
public import Idealize.ShloMosaic.Lib.Pointwise
public import Idealize.ShloMosaic.Lib.IdealHost

@[expose] public section

noncomputable section

namespace Cert.Psroi

open Idealize.ShloMosaic
open Cert.Pre_rois_in_unit Cert.Pre_rois_in_unit.Gen

/-- An extended real at least 0 and below 1 is a real. -/
theorem real_of_unit {x : EReal} (h0 : 0 ≤ x) (h1 : x < 1) : ∃ r : ℝ, x = ((r : ℝ) : EReal) ∧ 0 ≤ r ∧ r < 1 := by
  have hb : x ≠ ⊥ := fun e => by rw [e] at h0; exact absurd h0 (by simp)
  have ht : x ≠ ⊤ := fun e => by rw [e] at h1; exact absurd h1 (by simp)
  refine ⟨x.toReal, (EReal.coe_toReal ht hb).symm, ?_, ?_⟩
  · rw [← EReal.coe_nonneg, EReal.coe_toReal ht hb]; exact h0
  · rw [← EReal.coe_lt_coe_iff, EReal.coe_toReal ht hb]; exact h1

/-- Under the precondition every coordinate of every box is a real in the unit interval. -/
theorem unit_coordinate (ft : S1x490x34x34.Idx → EReal) (rois : S5000x5.Idx → EReal)
    (h : fn (F := Ideal) ft rois = fun _ => 1#1) (n : Fin 5000) (j : Fin 4) :
    ∃ r : ℝ, rois (ix2 n ⟨1 + j.val, by omega⟩) = ((r : ℝ) : EReal) ∧ 0 ≤ r ∧ r < 1 := by
  have hj : fn (F := Ideal) ft rois (ix2 n j) = 1#1 := congrFun h _
  revert hj
  unfold fn
  pointwise
  intro hj
  by_cases h0 : 0 ≤ rois (ix2 n ⟨1 + j.val, by omega⟩)
  · by_cases h1 : rois (ix2 n ⟨1 + j.val, by omega⟩) < 1
    · exact real_of_unit h0 h1
    · rw [decide_eq_true h0, decide_eq_false h1] at hj
      exact absurd hj (by decide)
  · rw [decide_eq_false h0] at hj
    rcases Bool.eq_false_or_eq_true (decide (rois (ix2 n ⟨1 + j.val, by omega⟩) < 1)) with e | e
    · rw [e] at hj; exact absurd hj (by decide)
    · rw [e] at hj; exact absurd hj (by decide)

end Cert.Psroi

end

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_rois_in_unit
public import proofs.«01_k».proof.Proof.Gen.ReferenceIdeal.Run
public import proofs.«01_k».proof.Proof.Frames
public import proofs.«01_k».proof.Proof.KernelValue
public import proofs.«01_k».proof.Proof.RefValue
public import proofs.«01_k».proof.Proof.Unit
public import Idealize.ShloMosaic.Adequacy
public import Idealize.ShloMosaic.Init

@[expose] public section

noncomputable section

namespace Cert.Proof

open Idealize.ShloMosaic Idealize.SL.Sem Cert.Psroi

/-- Under the precondition every box has real ends in the unit interval. -/
theorem box (V0 : Valuation Cert.ReferenceIdeal.τ Cert.ReferenceIdeal.sig (Elt Ideal))
    (h : Cert.Pre_rois_in_unit.fn (F := Ideal) (V0 (Proc.devRef .tc Cert.ReferenceIdeal.main_arg0))
      (V0 (Proc.devRef .tc Cert.ReferenceIdeal.main_arg1)) = fun _ => 1#1) (n : Fin 5000) :
    ∃ x0 x1 y0 y1 : ℝ, Reference.Box V0 n x0 x1 y0 y1 := by
  obtain ⟨x0, e0, l0, u0⟩ := unit_coordinate _ _ h n 0
  obtain ⟨y0, e1, l1, u1⟩ := unit_coordinate _ _ h n 1
  obtain ⟨x1, e2, l2, u2⟩ := unit_coordinate _ _ h n 2
  obtain ⟨y1, e3, l3, u3⟩ := unit_coordinate _ _ h n 3
  exact ⟨x0, x1, y0, y1, ⟨e0, e1, e2, e3, l0, l1, u0, u1, u2, u3⟩⟩

/-- For boxes in the unit interval the kernel and the reference end with the same result, and keep their arguments. -/
theorem algebraic : Cert.algebraic_KernelIdeal_ReferenceIdeal_pre_rois_in_unit := by
  intro m ρ m' ρ' hpre hagree
  refine ⟨_, Kernel.run m ρ, ?_⟩
  refine (θ_run Cert.ReferenceIdeal.defs _ _).mono (fun _ h c => ⟨(h c).1.trans ?_, (h c).2⟩)
    (Cert.ReferenceIdeal.Value.run (F := Ideal) m' ρ')
  have hp := hpre c
  rw [← (hagree c).1, ← (hagree c).2] at hp ⊢
  funext y
  obtain ⟨x0, x1, y0, y1, B⟩ := box (StableHlo.launchContents m' c) hp (y 0)
  have e := Reference.result_read B (y 1) (y 2)
  rw [show (ix3 (y 0) (y 1) (y 2) : Cert.ReferenceIdeal.S5000x10x49.Idx) = y from (eq_ix3 y).symm] at e
  exact e

/-- Every claim holds. -/
theorem claim : Cert.Claim :=
  ⟨Cert.Kernel.Gen.facts, Cert.KernelIdeal.Gen.facts, Cert.ReferenceIdeal.Gen.facts, Cert.Pre_rois_in_unit.Gen.facts,
    kernel_frame, ideal_frame, ideal_frame_unit, reference_frame, reference_frame_unit, constant_named, algebraic⟩

end Cert.Proof

end
